-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x6x8x128 : Shape := ⟨4, ![512, 6, 8, 128]⟩
abbrev S40x48x8192 : Shape := ⟨3, ![40, 48, 8192]⟩
abbrev S8x6x8x128 : Shape := ⟨4, ![8, 6, 8, 128]⟩
abbrev S1x48x1024 : Shape := ⟨3, ![1, 48, 1024]⟩
abbrev S8x128 : Shape := ⟨2, ![8, 128]⟩
abbrev S1x1x1x128 : Shape := ⟨4, ![1, 1, 1, 128]⟩
abbrev S1x128 : Shape := ⟨2, ![1, 128]⟩
abbrev S1x8x128 : Shape := ⟨3, ![1, 8, 128]⟩
abbrev S40x8192x48 : Shape := ⟨3, ![40, 8192, 48]⟩

abbrev nBuf : Space → Nat
  | .hbm => 11
  | .vmem => 20
  | .smem => 0
  | _ => 0

abbrev bufTy : (tb : Table) → Fin (tcTables nBuf tb) → BufTy
  | .hbm, ⟨0, _⟩ => ⟨S512x6x8x128, .i32⟩
  | .hbm, ⟨1, _⟩ => ⟨S512x6x8x128, .i32⟩
  | .hbm, ⟨2, _⟩ => ⟨S512x6x8x128, .i32⟩
  | .hbm, ⟨3, _⟩ => ⟨S512x6x8x128, .i32⟩
  | .hbm, ⟨4, _⟩ => ⟨S512x6x8x128, .i32⟩
  | .hbm, ⟨5, _⟩ => ⟨S40x48x8192, .f32⟩
  | .hbm, ⟨6, _⟩ => ⟨S40x48x8192, .f32⟩
  | .hbm, ⟨7, _⟩ => ⟨S40x48x8192, .f32⟩
  | .hbm, ⟨8, _⟩ => ⟨S40x48x8192, .f32⟩
  | .hbm, ⟨9, _⟩ => ⟨S40x48x8192, .f32⟩
  | .hbm, ⟨10, _⟩ => ⟨S40x8192x48, .f32⟩
  | .local _ .vmem, ⟨0, _⟩ => ⟨S8x6x8x128, .i32⟩
  | .local _ .vmem, ⟨1, _⟩ => ⟨S8x6x8x128, .i32⟩
  | .local _ .vmem, ⟨2, _⟩ => ⟨S1x48x1024, .f32⟩
  | .local _ .vmem, ⟨3, _⟩ => ⟨S1x48x1024, .f32⟩
  | .local _ .vmem, ⟨4, _⟩ => ⟨S8x6x8x128, .i32⟩
  | .local _ .vmem, ⟨5, _⟩ => ⟨S8x6x8x128, .i32⟩
  | .local _ .vmem, ⟨6, _⟩ => ⟨S1x48x1024, .f32⟩
  | .local _ .vmem, ⟨7, _⟩ => ⟨S1x48x1024, .f32⟩
  | .local _ .vmem, ⟨8, _⟩ => ⟨S8x6x8x128, .i32⟩
  | .local _ .vmem, ⟨9, _⟩ => ⟨S8x6x8x128, .i32⟩
  | .local _ .vmem, ⟨10, _⟩ => ⟨S1x48x1024, .f32⟩
  | .local _ .vmem, ⟨11, _⟩ => ⟨S1x48x1024, .f32⟩
  | .local _ .vmem, ⟨12, _⟩ => ⟨S8x6x8x128, .i32⟩
  | .local _ .vmem, ⟨13, _⟩ => ⟨S8x6x8x128, .i32⟩
  | .local _ .vmem, ⟨14, _⟩ => ⟨S1x48x1024, .f32⟩
  | .local _ .vmem, ⟨15, _⟩ => ⟨S1x48x1024, .f32⟩
  | .local _ .vmem, ⟨16, _⟩ => ⟨S8x6x8x128, .i32⟩
  | .local _ .vmem, ⟨17, _⟩ => ⟨S8x6x8x128, .i32⟩
  | .local _ .vmem, ⟨18, _⟩ => ⟨S1x48x1024, .f32⟩
  | .local _ .vmem, ⟨19, _⟩ => ⟨S1x48x1024, .f32⟩
  | _, _ => ⟨S512x6x8x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc4_stg0_0 : Ref sig .tc := ⟨.vmem, 16, rfl⟩
abbrev cc4_stg0_1 : Ref sig .tc := ⟨.vmem, 17, rfl⟩
abbrev cc4_stg1_0 : Ref sig .tc := ⟨.vmem, 18, rfl⟩
abbrev cc4_stg1_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc3_sem0_0 : DmaSem sig := 12
abbrev cc3_sem0_1 : DmaSem sig := 13
abbrev cc3_sem1_0 : DmaSem sig := 14
abbrev cc3_sem1_1 : DmaSem sig := 15
abbrev cc4_sem0_0 : DmaSem sig := 16
abbrev cc4_sem0_1 : DmaSem sig := 17
abbrev cc4_sem1_0 : DmaSem sig := 18
abbrev cc4_sem1_1 : DmaSem sig := 19

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k0_off1 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let v12 : Index := Scalar.indexCast v5
  let c0 : Index := 0#32
  let c6 : Index := 6#32
  let c0_8 : Index := 0#32
  ![v12.toNat, 0, 6, 0]
def k0_off2 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let v18 : Index := Scalar.indexCast v5
  let c0_9 : Index := 0#32
  let c7 : Index := 7#32
  let c0_10 : Index := 0#32
  ![v18.toNat, 0, 7, 0]
def k0_off3 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let v24 : Index := Scalar.indexCast v5
  let c0_11 : Index := 0#32
  let c0_12 : Index := 0#32
  let c0_13 : Index := 0#32
  ![v24.toNat, 0, 0, 0]
def k0_off4 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let v36 : Index := Scalar.indexCast v5
  let c0_14 : Index := 0#32
  let c1 : Index := 1#32
  let c0_15 : Index := 0#32
  ![v36.toNat, 0, 1, 0]
def k0_off5 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let v48 : Index := Scalar.indexCast v5
  let c0_17 : Index := 0#32
  let c2 : Index := 2#32
  let c0_18 : Index := 0#32
  ![v48.toNat, 0, 2, 0]
def k0_off6 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let v60 : Index := Scalar.indexCast v5
  let c0_20 : Index := 0#32
  let c3 : Index := 3#32
  let c0_21 : Index := 0#32
  ![v60.toNat, 0, 3, 0]
def k0_off7 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let v72 : Index := Scalar.indexCast v5
  let c0_23 : Index := 0#32
  let c4 : Index := 4#32
  let c0_24 : Index := 0#32
  ![v72.toNat, 0, 4, 0]
def k0_off8 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let v84 : Index := Scalar.indexCast v5
  let c0_26 : Index := 0#32
  let c5 : Index := 5#32
  let c0_27 : Index := 0#32
  ![v84.toNat, 0, 5, 0]
def k0_off9 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let v96 : Index := Scalar.indexCast v5
  let c1_29 : Index := 1#32
  let c6_30 : Index := 6#32
  let c0_31 : Index := 0#32
  ![v96.toNat, 1, 6, 0]
def k0_off10 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let v102 : Index := Scalar.indexCast v5
  let c1_32 : Index := 1#32
  let c7_33 : Index := 7#32
  let c0_34 : Index := 0#32
  ![v102.toNat, 1, 7, 0]
def k0_off11 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let v108 : Index := Scalar.indexCast v5
  let c1_35 : Index := 1#32
  let c0_36 : Index := 0#32
  let c0_37 : Index := 0#32
  ![v108.toNat, 1, 0, 0]
def k0_off12 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let v120 : Index := Scalar.indexCast v5
  let c1_39 : Index := 1#32
  let c1_40 : Index := 1#32
  let c0_41 : Index := 0#32
  ![v120.toNat, 1, 1, 0]
def k0_off13 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let v132 : Index := Scalar.indexCast v5
  let c1_43 : Index := 1#32
  let c2_44 : Index := 2#32
  let c0_45 : Index := 0#32
  ![v132.toNat, 1, 2, 0]
def k0_off14 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let v144 : Index := Scalar.indexCast v5
  let c1_47 : Index := 1#32
  let c3_48 : Index := 3#32
  let c0_49 : Index := 0#32
  ![v144.toNat, 1, 3, 0]
def k0_off15 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let v156 : Index := Scalar.indexCast v5
  let c1_51 : Index := 1#32
  let c4_52 : Index := 4#32
  let c0_53 : Index := 0#32
  ![v156.toNat, 1, 4, 0]
def k0_off16 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let v168 : Index := Scalar.indexCast v5
  let c1_55 : Index := 1#32
  let c5_56 : Index := 5#32
  let c0_57 : Index := 0#32
  ![v168.toNat, 1, 5, 0]
def k0_off17 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let v180 : Index := Scalar.indexCast v5
  let c2_59 : Index := 2#32
  let c6_60 : Index := 6#32
  let c0_61 : Index := 0#32
  ![v180.toNat, 2, 6, 0]
def k0_off18 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let v186 : Index := Scalar.indexCast v5
  let c2_62 : Index := 2#32
  let c7_63 : Index := 7#32
  let c0_64 : Index := 0#32
  ![v186.toNat, 2, 7, 0]
def k0_off19 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let v192 : Index := Scalar.indexCast v5
  let c2_65 : Index := 2#32
  let c0_66 : Index := 0#32
  let c0_67 : Index := 0#32
  ![v192.toNat, 2, 0, 0]
def k0_off20 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let v204 : Index := Scalar.indexCast v5
  let c2_69 : Index := 2#32
  let c1_70 : Index := 1#32
  let c0_71 : Index := 0#32
  ![v204.toNat, 2, 1, 0]
def k0_off21 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let v216 : Index := Scalar.indexCast v5
  let c2_73 : Index := 2#32
  let c2_74 : Index := 2#32
  let c0_75 : Index := 0#32
  ![v216.toNat, 2, 2, 0]
def k0_off22 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let v228 : Index := Scalar.indexCast v5
  let c2_77 : Index := 2#32
  let c3_78 : Index := 3#32
  let c0_79 : Index := 0#32
  ![v228.toNat, 2, 3, 0]
def k0_off23 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let v240 : Index := Scalar.indexCast v5
  let c2_81 : Index := 2#32
  let c4_82 : Index := 4#32
  let c0_83 : Index := 0#32
  ![v240.toNat, 2, 4, 0]
def k0_off24 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let v252 : Index := Scalar.indexCast v5
  let c2_85 : Index := 2#32
  let c5_86 : Index := 5#32
  let c0_87 : Index := 0#32
  ![v252.toNat, 2, 5, 0]
def k0_off25 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let v264 : Index := Scalar.indexCast v5
  let c3_89 : Index := 3#32
  let c6_90 : Index := 6#32
  let c0_91 : Index := 0#32
  ![v264.toNat, 3, 6, 0]
def k0_off26 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let v270 : Index := Scalar.indexCast v5
  let c3_92 : Index := 3#32
  let c7_93 : Index := 7#32
  let c0_94 : Index := 0#32
  ![v270.toNat, 3, 7, 0]
def k0_off27 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let v276 : Index := Scalar.indexCast v5
  let c3_95 : Index := 3#32
  let c0_96 : Index := 0#32
  let c0_97 : Index := 0#32
  ![v276.toNat, 3, 0, 0]
def k0_off28 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let v288 : Index := Scalar.indexCast v5
  let c3_99 : Index := 3#32
  let c1_100 : Index := 1#32
  let c0_101 : Index := 0#32
  ![v288.toNat, 3, 1, 0]
def k0_off29 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let v300 : Index := Scalar.indexCast v5
  let c3_103 : Index := 3#32
  let c2_104 : Index := 2#32
  let c0_105 : Index := 0#32
  ![v300.toNat, 3, 2, 0]
def k0_off30 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let v312 : Index := Scalar.indexCast v5
  let c3_107 : Index := 3#32
  let c3_108 : Index := 3#32
  let c0_109 : Index := 0#32
  ![v312.toNat, 3, 3, 0]
def k0_off31 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let v324 : Index := Scalar.indexCast v5
  let c3_111 : Index := 3#32
  let c4_112 : Index := 4#32
  let c0_113 : Index := 0#32
  ![v324.toNat, 3, 4, 0]
def k0_off32 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let v336 : Index := Scalar.indexCast v5
  let c3_115 : Index := 3#32
  let c5_116 : Index := 5#32
  let c0_117 : Index := 0#32
  ![v336.toNat, 3, 5, 0]
def k0_off33 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let v348 : Index := Scalar.indexCast v5
  let c4_119 : Index := 4#32
  let c6_120 : Index := 6#32
  let c0_121 : Index := 0#32
  ![v348.toNat, 4, 6, 0]
def k0_off34 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let v354 : Index := Scalar.indexCast v5
  let c4_122 : Index := 4#32
  let c7_123 : Index := 7#32
  let c0_124 : Index := 0#32
  ![v354.toNat, 4, 7, 0]
def k0_off35 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let v360 : Index := Scalar.indexCast v5
  let c4_125 : Index := 4#32
  let c0_126 : Index := 0#32
  let c0_127 : Index := 0#32
  ![v360.toNat, 4, 0, 0]
def k0_off36 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let v372 : Index := Scalar.indexCast v5
  let c4_129 : Index := 4#32
  let c1_130 : Index := 1#32
  let c0_131 : Index := 0#32
  ![v372.toNat, 4, 1, 0]
def k0_off37 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let v384 : Index := Scalar.indexCast v5
  let c4_133 : Index := 4#32
  let c2_134 : Index := 2#32
  let c0_135 : Index := 0#32
  ![v384.toNat, 4, 2, 0]
def k0_off38 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let v396 : Index := Scalar.indexCast v5
  let c4_137 : Index := 4#32
  let c3_138 : Index := 3#32
  let c0_139 : Index := 0#32
  ![v396.toNat, 4, 3, 0]
def k0_off39 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let v408 : Index := Scalar.indexCast v5
  let c4_141 : Index := 4#32
  let c4_142 : Index := 4#32
  let c0_143 : Index := 0#32
  ![v408.toNat, 4, 4, 0]
def k0_off40 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let v420 : Index := Scalar.indexCast v5
  let c4_145 : Index := 4#32
  let c5_146 : Index := 5#32
  let c0_147 : Index := 0#32
  ![v420.toNat, 4, 5, 0]
def k0_off41 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let v432 : Index := Scalar.indexCast v5
  let c5_149 : Index := 5#32
  let c6_150 : Index := 6#32
  let c0_151 : Index := 0#32
  ![v432.toNat, 5, 6, 0]
def k0_off42 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let v438 : Index := Scalar.indexCast v5
  let c5_152 : Index := 5#32
  let c7_153 : Index := 7#32
  let c0_154 : Index := 0#32
  ![v438.toNat, 5, 7, 0]
def k0_off43 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let v444 : Index := Scalar.indexCast v5
  let c5_155 : Index := 5#32
  let c0_156 : Index := 0#32
  let c0_157 : Index := 0#32
  ![v444.toNat, 5, 0, 0]
def k0_off44 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let v456 : Index := Scalar.indexCast v5
  let c5_159 : Index := 5#32
  let c1_160 : Index := 1#32
  let c0_161 : Index := 0#32
  ![v456.toNat, 5, 1, 0]
def k0_off45 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let v468 : Index := Scalar.indexCast v5
  let c5_163 : Index := 5#32
  let c2_164 : Index := 2#32
  let c0_165 : Index := 0#32
  ![v468.toNat, 5, 2, 0]
def k0_off46 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let v480 : Index := Scalar.indexCast v5
  let c5_167 : Index := 5#32
  let c3_168 : Index := 3#32
  let c0_169 : Index := 0#32
  ![v480.toNat, 5, 3, 0]
def k0_off47 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let v492 : Index := Scalar.indexCast v5
  let c5_171 : Index := 5#32
  let c4_172 : Index := 4#32
  let c0_173 : Index := 0#32
  ![v492.toNat, 5, 4, 0]
def k0_off48 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let v504 : Index := Scalar.indexCast v5
  let c5_175 : Index := 5#32
  let c5_176 : Index := 5#32
  let c0_177 : Index := 0#32
  ![v504.toNat, 5, 5, 0]
def k0_mult1 (k0_t1 : Fin k0_t1_loop.trips) : BitVec 32 :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let c128_i32 : BitVec 32 := 128#32
  let v516 : BitVec 32 := Scalar.muli v5 c128_i32
  v516
def k0_off49 (k0_t1 : Fin k0_t1_loop.trips) : Fin 3 → Nat :=
  let c0_179 : Index := 0#32
  let c0_180 : Index := 0#32
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let c128_i32 : BitVec 32 := 128#32
  let v516 : BitVec 32 := Scalar.muli v5 c128_i32
  let v517 : BitVec 32 := v516
  let v518 : Index := Scalar.indexCast v517
  ![0, 0, v518.toNat]
def k0_mult2 (k0_t1 : Fin k0_t1_loop.trips) : BitVec 32 :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let c128_i32_181 : BitVec 32 := 128#32
  let v522 : BitVec 32 := Scalar.muli v5 c128_i32_181
  v522
def k0_off50 (k0_t1 : Fin k0_t1_loop.trips) : Fin 3 → Nat :=
  let c0_182 : Index := 0#32
  let c8 : Index := 8#32
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let c128_i32_181 : BitVec 32 := 128#32
  let v522 : BitVec 32 := Scalar.muli v5 c128_i32_181
  let v523 : BitVec 32 := v522
  let v524 : Index := Scalar.indexCast v523
  ![0, 8, v524.toNat]
def k0_mult3 (k0_t1 : Fin k0_t1_loop.trips) : BitVec 32 :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let c128_i32_183 : BitVec 32 := 128#32
  let v528 : BitVec 32 := Scalar.muli v5 c128_i32_183
  v528
def k0_off51 (k0_t1 : Fin k0_t1_loop.trips) : Fin 3 → Nat :=
  let c0_184 : Index := 0#32
  let c16 : Index := 16#32
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let c128_i32_183 : BitVec 32 := 128#32
  let v528 : BitVec 32 := Scalar.muli v5 c128_i32_183
  let v529 : BitVec 32 := v528
  let v530 : Index := Scalar.indexCast v529
  ![0, 16, v530.toNat]
def k0_mult4 (k0_t1 : Fin k0_t1_loop.trips) : BitVec 32 :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let c128_i32_185 : BitVec 32 := 128#32
  let v534 : BitVec 32 := Scalar.muli v5 c128_i32_185
  v534
def k0_off52 (k0_t1 : Fin k0_t1_loop.trips) : Fin 3 → Nat :=
  let c0_186 : Index := 0#32
  let c24 : Index := 24#32
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let c128_i32_185 : BitVec 32 := 128#32
  let v534 : BitVec 32 := Scalar.muli v5 c128_i32_185
  let v535 : BitVec 32 := v534
  let v536 : Index := Scalar.indexCast v535
  ![0, 24, v536.toNat]
def k0_mult5 (k0_t1 : Fin k0_t1_loop.trips) : BitVec 32 :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let c128_i32_187 : BitVec 32 := 128#32
  let v540 : BitVec 32 := Scalar.muli v5 c128_i32_187
  v540
def k0_off53 (k0_t1 : Fin k0_t1_loop.trips) : Fin 3 → Nat :=
  let c0_188 : Index := 0#32
  let c32 : Index := 32#32
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let c128_i32_187 : BitVec 32 := 128#32
  let v540 : BitVec 32 := Scalar.muli v5 c128_i32_187
  let v541 : BitVec 32 := v540
  let v542 : Index := Scalar.indexCast v541
  ![0, 32, v542.toNat]
def k0_mult6 (k0_t1 : Fin k0_t1_loop.trips) : BitVec 32 :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let c128_i32_189 : BitVec 32 := 128#32
  let v546 : BitVec 32 := Scalar.muli v5 c128_i32_189
  v546
def k0_off54 (k0_t1 : Fin k0_t1_loop.trips) : Fin 3 → Nat :=
  let c0_190 : Index := 0#32
  let c40 : Index := 40#32
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v4 : BitVec 32 := Scalar.muli arg4 c1_i32_1
  let v5 : BitVec 32 := Scalar.addi c0_i32_2 v4
  let c128_i32_189 : BitVec 32 := 128#32
  let v546 : BitVec 32 := Scalar.muli v5 c128_i32_189
  let v547 : BitVec 32 := v546
  let v548 : Index := Scalar.indexCast v547
  ![0, 40, v548.toNat]
def cc0_transform_0 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat, arg1.toNat]

abbrev stage0_0 : Fin 2 → Memref sig .tc .vmem S8x6x8x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x48x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![8, 8], ![false, false]⟩

@[reducible] def k1_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k1_off1 (k1_t1 : Fin k1_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let v12 : Index := Scalar.indexCast v5
  let c0 : Index := 0#32
  let c6 : Index := 6#32
  let c0_8 : Index := 0#32
  ![v12.toNat, 0, 6, 0]
def k1_off2 (k1_t1 : Fin k1_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let v18 : Index := Scalar.indexCast v5
  let c0_9 : Index := 0#32
  let c7 : Index := 7#32
  let c0_10 : Index := 0#32
  ![v18.toNat, 0, 7, 0]
def k1_off3 (k1_t1 : Fin k1_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let v24 : Index := Scalar.indexCast v5
  let c0_11 : Index := 0#32
  let c0_12 : Index := 0#32
  let c0_13 : Index := 0#32
  ![v24.toNat, 0, 0, 0]
def k1_off4 (k1_t1 : Fin k1_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let v36 : Index := Scalar.indexCast v5
  let c0_14 : Index := 0#32
  let c1 : Index := 1#32
  let c0_15 : Index := 0#32
  ![v36.toNat, 0, 1, 0]
def k1_off5 (k1_t1 : Fin k1_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let v48 : Index := Scalar.indexCast v5
  let c0_17 : Index := 0#32
  let c2 : Index := 2#32
  let c0_18 : Index := 0#32
  ![v48.toNat, 0, 2, 0]
def k1_off6 (k1_t1 : Fin k1_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let v60 : Index := Scalar.indexCast v5
  let c0_20 : Index := 0#32
  let c3 : Index := 3#32
  let c0_21 : Index := 0#32
  ![v60.toNat, 0, 3, 0]
def k1_off7 (k1_t1 : Fin k1_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let v72 : Index := Scalar.indexCast v5
  let c0_23 : Index := 0#32
  let c4 : Index := 4#32
  let c0_24 : Index := 0#32
  ![v72.toNat, 0, 4, 0]
def k1_off8 (k1_t1 : Fin k1_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let v84 : Index := Scalar.indexCast v5
  let c0_26 : Index := 0#32
  let c5 : Index := 5#32
  let c0_27 : Index := 0#32
  ![v84.toNat, 0, 5, 0]
def k1_off9 (k1_t1 : Fin k1_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let v96 : Index := Scalar.indexCast v5
  let c1_29 : Index := 1#32
  let c6_30 : Index := 6#32
  let c0_31 : Index := 0#32
  ![v96.toNat, 1, 6, 0]
def k1_off10 (k1_t1 : Fin k1_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let v102 : Index := Scalar.indexCast v5
  let c1_32 : Index := 1#32
  let c7_33 : Index := 7#32
  let c0_34 : Index := 0#32
  ![v102.toNat, 1, 7, 0]
def k1_off11 (k1_t1 : Fin k1_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let v108 : Index := Scalar.indexCast v5
  let c1_35 : Index := 1#32
  let c0_36 : Index := 0#32
  let c0_37 : Index := 0#32
  ![v108.toNat, 1, 0, 0]
def k1_off12 (k1_t1 : Fin k1_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let v120 : Index := Scalar.indexCast v5
  let c1_39 : Index := 1#32
  let c1_40 : Index := 1#32
  let c0_41 : Index := 0#32
  ![v120.toNat, 1, 1, 0]
def k1_off13 (k1_t1 : Fin k1_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let v132 : Index := Scalar.indexCast v5
  let c1_43 : Index := 1#32
  let c2_44 : Index := 2#32
  let c0_45 : Index := 0#32
  ![v132.toNat, 1, 2, 0]
def k1_off14 (k1_t1 : Fin k1_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let v144 : Index := Scalar.indexCast v5
  let c1_47 : Index := 1#32
  let c3_48 : Index := 3#32
  let c0_49 : Index := 0#32
  ![v144.toNat, 1, 3, 0]
def k1_off15 (k1_t1 : Fin k1_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let v156 : Index := Scalar.indexCast v5
  let c1_51 : Index := 1#32
  let c4_52 : Index := 4#32
  let c0_53 : Index := 0#32
  ![v156.toNat, 1, 4, 0]
def k1_off16 (k1_t1 : Fin k1_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let v168 : Index := Scalar.indexCast v5
  let c1_55 : Index := 1#32
  let c5_56 : Index := 5#32
  let c0_57 : Index := 0#32
  ![v168.toNat, 1, 5, 0]
def k1_off17 (k1_t1 : Fin k1_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let v180 : Index := Scalar.indexCast v5
  let c2_59 : Index := 2#32
  let c6_60 : Index := 6#32
  let c0_61 : Index := 0#32
  ![v180.toNat, 2, 6, 0]
def k1_off18 (k1_t1 : Fin k1_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let v186 : Index := Scalar.indexCast v5
  let c2_62 : Index := 2#32
  let c7_63 : Index := 7#32
  let c0_64 : Index := 0#32
  ![v186.toNat, 2, 7, 0]
def k1_off19 (k1_t1 : Fin k1_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let v192 : Index := Scalar.indexCast v5
  let c2_65 : Index := 2#32
  let c0_66 : Index := 0#32
  let c0_67 : Index := 0#32
  ![v192.toNat, 2, 0, 0]
def k1_off20 (k1_t1 : Fin k1_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let v204 : Index := Scalar.indexCast v5
  let c2_69 : Index := 2#32
  let c1_70 : Index := 1#32
  let c0_71 : Index := 0#32
  ![v204.toNat, 2, 1, 0]
def k1_off21 (k1_t1 : Fin k1_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let v216 : Index := Scalar.indexCast v5
  let c2_73 : Index := 2#32
  let c2_74 : Index := 2#32
  let c0_75 : Index := 0#32
  ![v216.toNat, 2, 2, 0]
def k1_off22 (k1_t1 : Fin k1_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let v228 : Index := Scalar.indexCast v5
  let c2_77 : Index := 2#32
  let c3_78 : Index := 3#32
  let c0_79 : Index := 0#32
  ![v228.toNat, 2, 3, 0]
def k1_off23 (k1_t1 : Fin k1_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let v240 : Index := Scalar.indexCast v5
  let c2_81 : Index := 2#32
  let c4_82 : Index := 4#32
  let c0_83 : Index := 0#32
  ![v240.toNat, 2, 4, 0]
def k1_off24 (k1_t1 : Fin k1_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let v252 : Index := Scalar.indexCast v5
  let c2_85 : Index := 2#32
  let c5_86 : Index := 5#32
  let c0_87 : Index := 0#32
  ![v252.toNat, 2, 5, 0]
def k1_off25 (k1_t1 : Fin k1_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let v264 : Index := Scalar.indexCast v5
  let c3_89 : Index := 3#32
  let c6_90 : Index := 6#32
  let c0_91 : Index := 0#32
  ![v264.toNat, 3, 6, 0]
def k1_off26 (k1_t1 : Fin k1_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let v270 : Index := Scalar.indexCast v5
  let c3_92 : Index := 3#32
  let c7_93 : Index := 7#32
  let c0_94 : Index := 0#32
  ![v270.toNat, 3, 7, 0]
def k1_off27 (k1_t1 : Fin k1_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let v276 : Index := Scalar.indexCast v5
  let c3_95 : Index := 3#32
  let c0_96 : Index := 0#32
  let c0_97 : Index := 0#32
  ![v276.toNat, 3, 0, 0]
def k1_off28 (k1_t1 : Fin k1_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let v288 : Index := Scalar.indexCast v5
  let c3_99 : Index := 3#32
  let c1_100 : Index := 1#32
  let c0_101 : Index := 0#32
  ![v288.toNat, 3, 1, 0]
def k1_off29 (k1_t1 : Fin k1_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let v300 : Index := Scalar.indexCast v5
  let c3_103 : Index := 3#32
  let c2_104 : Index := 2#32
  let c0_105 : Index := 0#32
  ![v300.toNat, 3, 2, 0]
def k1_off30 (k1_t1 : Fin k1_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let v312 : Index := Scalar.indexCast v5
  let c3_107 : Index := 3#32
  let c3_108 : Index := 3#32
  let c0_109 : Index := 0#32
  ![v312.toNat, 3, 3, 0]
def k1_off31 (k1_t1 : Fin k1_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let v324 : Index := Scalar.indexCast v5
  let c3_111 : Index := 3#32
  let c4_112 : Index := 4#32
  let c0_113 : Index := 0#32
  ![v324.toNat, 3, 4, 0]
def k1_off32 (k1_t1 : Fin k1_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let v336 : Index := Scalar.indexCast v5
  let c3_115 : Index := 3#32
  let c5_116 : Index := 5#32
  let c0_117 : Index := 0#32
  ![v336.toNat, 3, 5, 0]
def k1_off33 (k1_t1 : Fin k1_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let v348 : Index := Scalar.indexCast v5
  let c4_119 : Index := 4#32
  let c6_120 : Index := 6#32
  let c0_121 : Index := 0#32
  ![v348.toNat, 4, 6, 0]
def k1_off34 (k1_t1 : Fin k1_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let v354 : Index := Scalar.indexCast v5
  let c4_122 : Index := 4#32
  let c7_123 : Index := 7#32
  let c0_124 : Index := 0#32
  ![v354.toNat, 4, 7, 0]
def k1_off35 (k1_t1 : Fin k1_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let v360 : Index := Scalar.indexCast v5
  let c4_125 : Index := 4#32
  let c0_126 : Index := 0#32
  let c0_127 : Index := 0#32
  ![v360.toNat, 4, 0, 0]
def k1_off36 (k1_t1 : Fin k1_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let v372 : Index := Scalar.indexCast v5
  let c4_129 : Index := 4#32
  let c1_130 : Index := 1#32
  let c0_131 : Index := 0#32
  ![v372.toNat, 4, 1, 0]
def k1_off37 (k1_t1 : Fin k1_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let v384 : Index := Scalar.indexCast v5
  let c4_133 : Index := 4#32
  let c2_134 : Index := 2#32
  let c0_135 : Index := 0#32
  ![v384.toNat, 4, 2, 0]
def k1_off38 (k1_t1 : Fin k1_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let v396 : Index := Scalar.indexCast v5
  let c4_137 : Index := 4#32
  let c3_138 : Index := 3#32
  let c0_139 : Index := 0#32
  ![v396.toNat, 4, 3, 0]
def k1_off39 (k1_t1 : Fin k1_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let v408 : Index := Scalar.indexCast v5
  let c4_141 : Index := 4#32
  let c4_142 : Index := 4#32
  let c0_143 : Index := 0#32
  ![v408.toNat, 4, 4, 0]
def k1_off40 (k1_t1 : Fin k1_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let v420 : Index := Scalar.indexCast v5
  let c4_145 : Index := 4#32
  let c5_146 : Index := 5#32
  let c0_147 : Index := 0#32
  ![v420.toNat, 4, 5, 0]
def k1_off41 (k1_t1 : Fin k1_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let v432 : Index := Scalar.indexCast v5
  let c5_149 : Index := 5#32
  let c6_150 : Index := 6#32
  let c0_151 : Index := 0#32
  ![v432.toNat, 5, 6, 0]
def k1_off42 (k1_t1 : Fin k1_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let v438 : Index := Scalar.indexCast v5
  let c5_152 : Index := 5#32
  let c7_153 : Index := 7#32
  let c0_154 : Index := 0#32
  ![v438.toNat, 5, 7, 0]
def k1_off43 (k1_t1 : Fin k1_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let v444 : Index := Scalar.indexCast v5
  let c5_155 : Index := 5#32
  let c0_156 : Index := 0#32
  let c0_157 : Index := 0#32
  ![v444.toNat, 5, 0, 0]
def k1_off44 (k1_t1 : Fin k1_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let v456 : Index := Scalar.indexCast v5
  let c5_159 : Index := 5#32
  let c1_160 : Index := 1#32
  let c0_161 : Index := 0#32
  ![v456.toNat, 5, 1, 0]
def k1_off45 (k1_t1 : Fin k1_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let v468 : Index := Scalar.indexCast v5
  let c5_163 : Index := 5#32
  let c2_164 : Index := 2#32
  let c0_165 : Index := 0#32
  ![v468.toNat, 5, 2, 0]
def k1_off46 (k1_t1 : Fin k1_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let v480 : Index := Scalar.indexCast v5
  let c5_167 : Index := 5#32
  let c3_168 : Index := 3#32
  let c0_169 : Index := 0#32
  ![v480.toNat, 5, 3, 0]
def k1_off47 (k1_t1 : Fin k1_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let v492 : Index := Scalar.indexCast v5
  let c5_171 : Index := 5#32
  let c4_172 : Index := 4#32
  let c0_173 : Index := 0#32
  ![v492.toNat, 5, 4, 0]
def k1_off48 (k1_t1 : Fin k1_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let v504 : Index := Scalar.indexCast v5
  let c5_175 : Index := 5#32
  let c5_176 : Index := 5#32
  let c0_177 : Index := 0#32
  ![v504.toNat, 5, 5, 0]
def k1_mult1 (k1_t1 : Fin k1_t1_loop.trips) : BitVec 32 :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let c128_i32 : BitVec 32 := 128#32
  let v516 : BitVec 32 := Scalar.muli v5 c128_i32
  v516
def k1_off49 (k1_t1 : Fin k1_t1_loop.trips) : Fin 3 → Nat :=
  let c0_179 : Index := 0#32
  let c0_180 : Index := 0#32
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let c128_i32 : BitVec 32 := 128#32
  let v516 : BitVec 32 := Scalar.muli v5 c128_i32
  let v517 : BitVec 32 := v516
  let v518 : Index := Scalar.indexCast v517
  ![0, 0, v518.toNat]
def k1_mult2 (k1_t1 : Fin k1_t1_loop.trips) : BitVec 32 :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let c128_i32_181 : BitVec 32 := 128#32
  let v522 : BitVec 32 := Scalar.muli v5 c128_i32_181
  v522
def k1_off50 (k1_t1 : Fin k1_t1_loop.trips) : Fin 3 → Nat :=
  let c0_182 : Index := 0#32
  let c8 : Index := 8#32
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let c128_i32_181 : BitVec 32 := 128#32
  let v522 : BitVec 32 := Scalar.muli v5 c128_i32_181
  let v523 : BitVec 32 := v522
  let v524 : Index := Scalar.indexCast v523
  ![0, 8, v524.toNat]
def k1_mult3 (k1_t1 : Fin k1_t1_loop.trips) : BitVec 32 :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let c128_i32_183 : BitVec 32 := 128#32
  let v528 : BitVec 32 := Scalar.muli v5 c128_i32_183
  v528
def k1_off51 (k1_t1 : Fin k1_t1_loop.trips) : Fin 3 → Nat :=
  let c0_184 : Index := 0#32
  let c16 : Index := 16#32
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let c128_i32_183 : BitVec 32 := 128#32
  let v528 : BitVec 32 := Scalar.muli v5 c128_i32_183
  let v529 : BitVec 32 := v528
  let v530 : Index := Scalar.indexCast v529
  ![0, 16, v530.toNat]
def k1_mult4 (k1_t1 : Fin k1_t1_loop.trips) : BitVec 32 :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let c128_i32_185 : BitVec 32 := 128#32
  let v534 : BitVec 32 := Scalar.muli v5 c128_i32_185
  v534
def k1_off52 (k1_t1 : Fin k1_t1_loop.trips) : Fin 3 → Nat :=
  let c0_186 : Index := 0#32
  let c24 : Index := 24#32
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let c128_i32_185 : BitVec 32 := 128#32
  let v534 : BitVec 32 := Scalar.muli v5 c128_i32_185
  let v535 : BitVec 32 := v534
  let v536 : Index := Scalar.indexCast v535
  ![0, 24, v536.toNat]
def k1_mult5 (k1_t1 : Fin k1_t1_loop.trips) : BitVec 32 :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let c128_i32_187 : BitVec 32 := 128#32
  let v540 : BitVec 32 := Scalar.muli v5 c128_i32_187
  v540
def k1_off53 (k1_t1 : Fin k1_t1_loop.trips) : Fin 3 → Nat :=
  let c0_188 : Index := 0#32
  let c32 : Index := 32#32
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let c128_i32_187 : BitVec 32 := 128#32
  let v540 : BitVec 32 := Scalar.muli v5 c128_i32_187
  let v541 : BitVec 32 := v540
  let v542 : Index := Scalar.indexCast v541
  ![0, 32, v542.toNat]
def k1_mult6 (k1_t1 : Fin k1_t1_loop.trips) : BitVec 32 :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let c128_i32_189 : BitVec 32 := 128#32
  let v546 : BitVec 32 := Scalar.muli v5 c128_i32_189
  v546
def k1_off54 (k1_t1 : Fin k1_t1_loop.trips) : Fin 3 → Nat :=
  let c0_190 : Index := 0#32
  let c40 : Index := 40#32
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let c128_i32_189 : BitVec 32 := 128#32
  let v546 : BitVec 32 := Scalar.muli v5 c128_i32_189
  let v547 : BitVec 32 := v546
  let v548 : Index := Scalar.indexCast v547
  ![0, 40, v548.toNat]
def cc1_transform_0 (i : grid1.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc1_transform_2 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![v0.toNat, c0_i32.toNat, arg1.toNat]

abbrev stage1_0 : Fin 2 → Memref sig .tc .vmem S8x6x8x128 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x48x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev grid2 : Pipeline.Grid := ⟨2, ![8, 8], ![false, false]⟩

@[reducible] def k2_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k2_off1 (k2_t1 : Fin k2_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let v12 : Index := Scalar.indexCast v5
  let c0 : Index := 0#32
  let c6 : Index := 6#32
  let c0_8 : Index := 0#32
  ![v12.toNat, 0, 6, 0]
def k2_off2 (k2_t1 : Fin k2_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let v18 : Index := Scalar.indexCast v5
  let c0_9 : Index := 0#32
  let c7 : Index := 7#32
  let c0_10 : Index := 0#32
  ![v18.toNat, 0, 7, 0]
def k2_off3 (k2_t1 : Fin k2_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let v24 : Index := Scalar.indexCast v5
  let c0_11 : Index := 0#32
  let c0_12 : Index := 0#32
  let c0_13 : Index := 0#32
  ![v24.toNat, 0, 0, 0]
def k2_off4 (k2_t1 : Fin k2_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let v36 : Index := Scalar.indexCast v5
  let c0_14 : Index := 0#32
  let c1 : Index := 1#32
  let c0_15 : Index := 0#32
  ![v36.toNat, 0, 1, 0]
def k2_off5 (k2_t1 : Fin k2_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let v48 : Index := Scalar.indexCast v5
  let c0_17 : Index := 0#32
  let c2 : Index := 2#32
  let c0_18 : Index := 0#32
  ![v48.toNat, 0, 2, 0]
def k2_off6 (k2_t1 : Fin k2_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let v60 : Index := Scalar.indexCast v5
  let c0_20 : Index := 0#32
  let c3 : Index := 3#32
  let c0_21 : Index := 0#32
  ![v60.toNat, 0, 3, 0]
def k2_off7 (k2_t1 : Fin k2_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let v72 : Index := Scalar.indexCast v5
  let c0_23 : Index := 0#32
  let c4 : Index := 4#32
  let c0_24 : Index := 0#32
  ![v72.toNat, 0, 4, 0]
def k2_off8 (k2_t1 : Fin k2_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let v84 : Index := Scalar.indexCast v5
  let c0_26 : Index := 0#32
  let c5 : Index := 5#32
  let c0_27 : Index := 0#32
  ![v84.toNat, 0, 5, 0]
def k2_off9 (k2_t1 : Fin k2_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let v96 : Index := Scalar.indexCast v5
  let c1_29 : Index := 1#32
  let c6_30 : Index := 6#32
  let c0_31 : Index := 0#32
  ![v96.toNat, 1, 6, 0]
def k2_off10 (k2_t1 : Fin k2_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let v102 : Index := Scalar.indexCast v5
  let c1_32 : Index := 1#32
  let c7_33 : Index := 7#32
  let c0_34 : Index := 0#32
  ![v102.toNat, 1, 7, 0]
def k2_off11 (k2_t1 : Fin k2_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let v108 : Index := Scalar.indexCast v5
  let c1_35 : Index := 1#32
  let c0_36 : Index := 0#32
  let c0_37 : Index := 0#32
  ![v108.toNat, 1, 0, 0]
def k2_off12 (k2_t1 : Fin k2_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let v120 : Index := Scalar.indexCast v5
  let c1_39 : Index := 1#32
  let c1_40 : Index := 1#32
  let c0_41 : Index := 0#32
  ![v120.toNat, 1, 1, 0]
def k2_off13 (k2_t1 : Fin k2_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let v132 : Index := Scalar.indexCast v5
  let c1_43 : Index := 1#32
  let c2_44 : Index := 2#32
  let c0_45 : Index := 0#32
  ![v132.toNat, 1, 2, 0]
def k2_off14 (k2_t1 : Fin k2_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let v144 : Index := Scalar.indexCast v5
  let c1_47 : Index := 1#32
  let c3_48 : Index := 3#32
  let c0_49 : Index := 0#32
  ![v144.toNat, 1, 3, 0]
def k2_off15 (k2_t1 : Fin k2_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let v156 : Index := Scalar.indexCast v5
  let c1_51 : Index := 1#32
  let c4_52 : Index := 4#32
  let c0_53 : Index := 0#32
  ![v156.toNat, 1, 4, 0]
def k2_off16 (k2_t1 : Fin k2_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let v168 : Index := Scalar.indexCast v5
  let c1_55 : Index := 1#32
  let c5_56 : Index := 5#32
  let c0_57 : Index := 0#32
  ![v168.toNat, 1, 5, 0]
def k2_off17 (k2_t1 : Fin k2_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let v180 : Index := Scalar.indexCast v5
  let c2_59 : Index := 2#32
  let c6_60 : Index := 6#32
  let c0_61 : Index := 0#32
  ![v180.toNat, 2, 6, 0]
def k2_off18 (k2_t1 : Fin k2_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let v186 : Index := Scalar.indexCast v5
  let c2_62 : Index := 2#32
  let c7_63 : Index := 7#32
  let c0_64 : Index := 0#32
  ![v186.toNat, 2, 7, 0]
def k2_off19 (k2_t1 : Fin k2_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let v192 : Index := Scalar.indexCast v5
  let c2_65 : Index := 2#32
  let c0_66 : Index := 0#32
  let c0_67 : Index := 0#32
  ![v192.toNat, 2, 0, 0]
def k2_off20 (k2_t1 : Fin k2_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let v204 : Index := Scalar.indexCast v5
  let c2_69 : Index := 2#32
  let c1_70 : Index := 1#32
  let c0_71 : Index := 0#32
  ![v204.toNat, 2, 1, 0]
def k2_off21 (k2_t1 : Fin k2_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let v216 : Index := Scalar.indexCast v5
  let c2_73 : Index := 2#32
  let c2_74 : Index := 2#32
  let c0_75 : Index := 0#32
  ![v216.toNat, 2, 2, 0]
def k2_off22 (k2_t1 : Fin k2_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let v228 : Index := Scalar.indexCast v5
  let c2_77 : Index := 2#32
  let c3_78 : Index := 3#32
  let c0_79 : Index := 0#32
  ![v228.toNat, 2, 3, 0]
def k2_off23 (k2_t1 : Fin k2_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let v240 : Index := Scalar.indexCast v5
  let c2_81 : Index := 2#32
  let c4_82 : Index := 4#32
  let c0_83 : Index := 0#32
  ![v240.toNat, 2, 4, 0]
def k2_off24 (k2_t1 : Fin k2_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let v252 : Index := Scalar.indexCast v5
  let c2_85 : Index := 2#32
  let c5_86 : Index := 5#32
  let c0_87 : Index := 0#32
  ![v252.toNat, 2, 5, 0]
def k2_off25 (k2_t1 : Fin k2_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let v264 : Index := Scalar.indexCast v5
  let c3_89 : Index := 3#32
  let c6_90 : Index := 6#32
  let c0_91 : Index := 0#32
  ![v264.toNat, 3, 6, 0]
def k2_off26 (k2_t1 : Fin k2_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let v270 : Index := Scalar.indexCast v5
  let c3_92 : Index := 3#32
  let c7_93 : Index := 7#32
  let c0_94 : Index := 0#32
  ![v270.toNat, 3, 7, 0]
def k2_off27 (k2_t1 : Fin k2_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let v276 : Index := Scalar.indexCast v5
  let c3_95 : Index := 3#32
  let c0_96 : Index := 0#32
  let c0_97 : Index := 0#32
  ![v276.toNat, 3, 0, 0]
def k2_off28 (k2_t1 : Fin k2_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let v288 : Index := Scalar.indexCast v5
  let c3_99 : Index := 3#32
  let c1_100 : Index := 1#32
  let c0_101 : Index := 0#32
  ![v288.toNat, 3, 1, 0]
def k2_off29 (k2_t1 : Fin k2_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let v300 : Index := Scalar.indexCast v5
  let c3_103 : Index := 3#32
  let c2_104 : Index := 2#32
  let c0_105 : Index := 0#32
  ![v300.toNat, 3, 2, 0]
def k2_off30 (k2_t1 : Fin k2_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let v312 : Index := Scalar.indexCast v5
  let c3_107 : Index := 3#32
  let c3_108 : Index := 3#32
  let c0_109 : Index := 0#32
  ![v312.toNat, 3, 3, 0]
def k2_off31 (k2_t1 : Fin k2_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let v324 : Index := Scalar.indexCast v5
  let c3_111 : Index := 3#32
  let c4_112 : Index := 4#32
  let c0_113 : Index := 0#32
  ![v324.toNat, 3, 4, 0]
def k2_off32 (k2_t1 : Fin k2_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let v336 : Index := Scalar.indexCast v5
  let c3_115 : Index := 3#32
  let c5_116 : Index := 5#32
  let c0_117 : Index := 0#32
  ![v336.toNat, 3, 5, 0]
def k2_off33 (k2_t1 : Fin k2_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let v348 : Index := Scalar.indexCast v5
  let c4_119 : Index := 4#32
  let c6_120 : Index := 6#32
  let c0_121 : Index := 0#32
  ![v348.toNat, 4, 6, 0]
def k2_off34 (k2_t1 : Fin k2_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let v354 : Index := Scalar.indexCast v5
  let c4_122 : Index := 4#32
  let c7_123 : Index := 7#32
  let c0_124 : Index := 0#32
  ![v354.toNat, 4, 7, 0]
def k2_off35 (k2_t1 : Fin k2_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let v360 : Index := Scalar.indexCast v5
  let c4_125 : Index := 4#32
  let c0_126 : Index := 0#32
  let c0_127 : Index := 0#32
  ![v360.toNat, 4, 0, 0]
def k2_off36 (k2_t1 : Fin k2_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let v372 : Index := Scalar.indexCast v5
  let c4_129 : Index := 4#32
  let c1_130 : Index := 1#32
  let c0_131 : Index := 0#32
  ![v372.toNat, 4, 1, 0]
def k2_off37 (k2_t1 : Fin k2_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let v384 : Index := Scalar.indexCast v5
  let c4_133 : Index := 4#32
  let c2_134 : Index := 2#32
  let c0_135 : Index := 0#32
  ![v384.toNat, 4, 2, 0]
def k2_off38 (k2_t1 : Fin k2_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let v396 : Index := Scalar.indexCast v5
  let c4_137 : Index := 4#32
  let c3_138 : Index := 3#32
  let c0_139 : Index := 0#32
  ![v396.toNat, 4, 3, 0]
def k2_off39 (k2_t1 : Fin k2_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let v408 : Index := Scalar.indexCast v5
  let c4_141 : Index := 4#32
  let c4_142 : Index := 4#32
  let c0_143 : Index := 0#32
  ![v408.toNat, 4, 4, 0]
def k2_off40 (k2_t1 : Fin k2_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let v420 : Index := Scalar.indexCast v5
  let c4_145 : Index := 4#32
  let c5_146 : Index := 5#32
  let c0_147 : Index := 0#32
  ![v420.toNat, 4, 5, 0]
def k2_off41 (k2_t1 : Fin k2_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let v432 : Index := Scalar.indexCast v5
  let c5_149 : Index := 5#32
  let c6_150 : Index := 6#32
  let c0_151 : Index := 0#32
  ![v432.toNat, 5, 6, 0]
def k2_off42 (k2_t1 : Fin k2_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let v438 : Index := Scalar.indexCast v5
  let c5_152 : Index := 5#32
  let c7_153 : Index := 7#32
  let c0_154 : Index := 0#32
  ![v438.toNat, 5, 7, 0]
def k2_off43 (k2_t1 : Fin k2_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let v444 : Index := Scalar.indexCast v5
  let c5_155 : Index := 5#32
  let c0_156 : Index := 0#32
  let c0_157 : Index := 0#32
  ![v444.toNat, 5, 0, 0]
def k2_off44 (k2_t1 : Fin k2_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let v456 : Index := Scalar.indexCast v5
  let c5_159 : Index := 5#32
  let c1_160 : Index := 1#32
  let c0_161 : Index := 0#32
  ![v456.toNat, 5, 1, 0]
def k2_off45 (k2_t1 : Fin k2_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let v468 : Index := Scalar.indexCast v5
  let c5_163 : Index := 5#32
  let c2_164 : Index := 2#32
  let c0_165 : Index := 0#32
  ![v468.toNat, 5, 2, 0]
def k2_off46 (k2_t1 : Fin k2_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let v480 : Index := Scalar.indexCast v5
  let c5_167 : Index := 5#32
  let c3_168 : Index := 3#32
  let c0_169 : Index := 0#32
  ![v480.toNat, 5, 3, 0]
def k2_off47 (k2_t1 : Fin k2_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let v492 : Index := Scalar.indexCast v5
  let c5_171 : Index := 5#32
  let c4_172 : Index := 4#32
  let c0_173 : Index := 0#32
  ![v492.toNat, 5, 4, 0]
def k2_off48 (k2_t1 : Fin k2_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let v504 : Index := Scalar.indexCast v5
  let c5_175 : Index := 5#32
  let c5_176 : Index := 5#32
  let c0_177 : Index := 0#32
  ![v504.toNat, 5, 5, 0]
def k2_mult1 (k2_t1 : Fin k2_t1_loop.trips) : BitVec 32 :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let c128_i32 : BitVec 32 := 128#32
  let v516 : BitVec 32 := Scalar.muli v5 c128_i32
  v516
def k2_off49 (k2_t1 : Fin k2_t1_loop.trips) : Fin 3 → Nat :=
  let c0_179 : Index := 0#32
  let c0_180 : Index := 0#32
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let c128_i32 : BitVec 32 := 128#32
  let v516 : BitVec 32 := Scalar.muli v5 c128_i32
  let v517 : BitVec 32 := v516
  let v518 : Index := Scalar.indexCast v517
  ![0, 0, v518.toNat]
def k2_mult2 (k2_t1 : Fin k2_t1_loop.trips) : BitVec 32 :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let c128_i32_181 : BitVec 32 := 128#32
  let v522 : BitVec 32 := Scalar.muli v5 c128_i32_181
  v522
def k2_off50 (k2_t1 : Fin k2_t1_loop.trips) : Fin 3 → Nat :=
  let c0_182 : Index := 0#32
  let c8 : Index := 8#32
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let c128_i32_181 : BitVec 32 := 128#32
  let v522 : BitVec 32 := Scalar.muli v5 c128_i32_181
  let v523 : BitVec 32 := v522
  let v524 : Index := Scalar.indexCast v523
  ![0, 8, v524.toNat]
def k2_mult3 (k2_t1 : Fin k2_t1_loop.trips) : BitVec 32 :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let c128_i32_183 : BitVec 32 := 128#32
  let v528 : BitVec 32 := Scalar.muli v5 c128_i32_183
  v528
def k2_off51 (k2_t1 : Fin k2_t1_loop.trips) : Fin 3 → Nat :=
  let c0_184 : Index := 0#32
  let c16 : Index := 16#32
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let c128_i32_183 : BitVec 32 := 128#32
  let v528 : BitVec 32 := Scalar.muli v5 c128_i32_183
  let v529 : BitVec 32 := v528
  let v530 : Index := Scalar.indexCast v529
  ![0, 16, v530.toNat]
def k2_mult4 (k2_t1 : Fin k2_t1_loop.trips) : BitVec 32 :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let c128_i32_185 : BitVec 32 := 128#32
  let v534 : BitVec 32 := Scalar.muli v5 c128_i32_185
  v534
def k2_off52 (k2_t1 : Fin k2_t1_loop.trips) : Fin 3 → Nat :=
  let c0_186 : Index := 0#32
  let c24 : Index := 24#32
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let c128_i32_185 : BitVec 32 := 128#32
  let v534 : BitVec 32 := Scalar.muli v5 c128_i32_185
  let v535 : BitVec 32 := v534
  let v536 : Index := Scalar.indexCast v535
  ![0, 24, v536.toNat]
def k2_mult5 (k2_t1 : Fin k2_t1_loop.trips) : BitVec 32 :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let c128_i32_187 : BitVec 32 := 128#32
  let v540 : BitVec 32 := Scalar.muli v5 c128_i32_187
  v540
def k2_off53 (k2_t1 : Fin k2_t1_loop.trips) : Fin 3 → Nat :=
  let c0_188 : Index := 0#32
  let c32 : Index := 32#32
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let c128_i32_187 : BitVec 32 := 128#32
  let v540 : BitVec 32 := Scalar.muli v5 c128_i32_187
  let v541 : BitVec 32 := v540
  let v542 : Index := Scalar.indexCast v541
  ![0, 32, v542.toNat]
def k2_mult6 (k2_t1 : Fin k2_t1_loop.trips) : BitVec 32 :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let c128_i32_189 : BitVec 32 := 128#32
  let v546 : BitVec 32 := Scalar.muli v5 c128_i32_189
  v546
def k2_off54 (k2_t1 : Fin k2_t1_loop.trips) : Fin 3 → Nat :=
  let c0_190 : Index := 0#32
  let c40 : Index := 40#32
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let c128_i32_189 : BitVec 32 := 128#32
  let v546 : BitVec 32 := Scalar.muli v5 c128_i32_189
  let v547 : BitVec 32 := v546
  let v548 : Index := Scalar.indexCast v547
  ![0, 40, v548.toNat]
def cc2_transform_0 (i : grid2.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc2_transform_2 (i : grid2.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![v0.toNat, c0_i32.toNat, arg1.toNat]

abbrev stage2_0 : Fin 2 → Memref sig .tc .vmem S8x6x8x128 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x48x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev grid3 : Pipeline.Grid := ⟨2, ![8, 8], ![false, false]⟩

@[reducible] def k3_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k3_off1 (k3_t1 : Fin k3_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let v12 : Index := Scalar.indexCast v5
  let c0 : Index := 0#32
  let c6 : Index := 6#32
  let c0_8 : Index := 0#32
  ![v12.toNat, 0, 6, 0]
def k3_off2 (k3_t1 : Fin k3_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let v18 : Index := Scalar.indexCast v5
  let c0_9 : Index := 0#32
  let c7 : Index := 7#32
  let c0_10 : Index := 0#32
  ![v18.toNat, 0, 7, 0]
def k3_off3 (k3_t1 : Fin k3_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let v24 : Index := Scalar.indexCast v5
  let c0_11 : Index := 0#32
  let c0_12 : Index := 0#32
  let c0_13 : Index := 0#32
  ![v24.toNat, 0, 0, 0]
def k3_off4 (k3_t1 : Fin k3_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let v36 : Index := Scalar.indexCast v5
  let c0_14 : Index := 0#32
  let c1 : Index := 1#32
  let c0_15 : Index := 0#32
  ![v36.toNat, 0, 1, 0]
def k3_off5 (k3_t1 : Fin k3_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let v48 : Index := Scalar.indexCast v5
  let c0_17 : Index := 0#32
  let c2 : Index := 2#32
  let c0_18 : Index := 0#32
  ![v48.toNat, 0, 2, 0]
def k3_off6 (k3_t1 : Fin k3_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let v60 : Index := Scalar.indexCast v5
  let c0_20 : Index := 0#32
  let c3 : Index := 3#32
  let c0_21 : Index := 0#32
  ![v60.toNat, 0, 3, 0]
def k3_off7 (k3_t1 : Fin k3_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let v72 : Index := Scalar.indexCast v5
  let c0_23 : Index := 0#32
  let c4 : Index := 4#32
  let c0_24 : Index := 0#32
  ![v72.toNat, 0, 4, 0]
def k3_off8 (k3_t1 : Fin k3_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let v84 : Index := Scalar.indexCast v5
  let c0_26 : Index := 0#32
  let c5 : Index := 5#32
  let c0_27 : Index := 0#32
  ![v84.toNat, 0, 5, 0]
def k3_off9 (k3_t1 : Fin k3_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let v96 : Index := Scalar.indexCast v5
  let c1_29 : Index := 1#32
  let c6_30 : Index := 6#32
  let c0_31 : Index := 0#32
  ![v96.toNat, 1, 6, 0]
def k3_off10 (k3_t1 : Fin k3_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let v102 : Index := Scalar.indexCast v5
  let c1_32 : Index := 1#32
  let c7_33 : Index := 7#32
  let c0_34 : Index := 0#32
  ![v102.toNat, 1, 7, 0]
def k3_off11 (k3_t1 : Fin k3_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let v108 : Index := Scalar.indexCast v5
  let c1_35 : Index := 1#32
  let c0_36 : Index := 0#32
  let c0_37 : Index := 0#32
  ![v108.toNat, 1, 0, 0]
def k3_off12 (k3_t1 : Fin k3_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let v120 : Index := Scalar.indexCast v5
  let c1_39 : Index := 1#32
  let c1_40 : Index := 1#32
  let c0_41 : Index := 0#32
  ![v120.toNat, 1, 1, 0]
def k3_off13 (k3_t1 : Fin k3_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let v132 : Index := Scalar.indexCast v5
  let c1_43 : Index := 1#32
  let c2_44 : Index := 2#32
  let c0_45 : Index := 0#32
  ![v132.toNat, 1, 2, 0]
def k3_off14 (k3_t1 : Fin k3_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let v144 : Index := Scalar.indexCast v5
  let c1_47 : Index := 1#32
  let c3_48 : Index := 3#32
  let c0_49 : Index := 0#32
  ![v144.toNat, 1, 3, 0]
def k3_off15 (k3_t1 : Fin k3_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let v156 : Index := Scalar.indexCast v5
  let c1_51 : Index := 1#32
  let c4_52 : Index := 4#32
  let c0_53 : Index := 0#32
  ![v156.toNat, 1, 4, 0]
def k3_off16 (k3_t1 : Fin k3_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let v168 : Index := Scalar.indexCast v5
  let c1_55 : Index := 1#32
  let c5_56 : Index := 5#32
  let c0_57 : Index := 0#32
  ![v168.toNat, 1, 5, 0]
def k3_off17 (k3_t1 : Fin k3_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let v180 : Index := Scalar.indexCast v5
  let c2_59 : Index := 2#32
  let c6_60 : Index := 6#32
  let c0_61 : Index := 0#32
  ![v180.toNat, 2, 6, 0]
def k3_off18 (k3_t1 : Fin k3_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let v186 : Index := Scalar.indexCast v5
  let c2_62 : Index := 2#32
  let c7_63 : Index := 7#32
  let c0_64 : Index := 0#32
  ![v186.toNat, 2, 7, 0]
def k3_off19 (k3_t1 : Fin k3_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let v192 : Index := Scalar.indexCast v5
  let c2_65 : Index := 2#32
  let c0_66 : Index := 0#32
  let c0_67 : Index := 0#32
  ![v192.toNat, 2, 0, 0]
def k3_off20 (k3_t1 : Fin k3_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let v204 : Index := Scalar.indexCast v5
  let c2_69 : Index := 2#32
  let c1_70 : Index := 1#32
  let c0_71 : Index := 0#32
  ![v204.toNat, 2, 1, 0]
def k3_off21 (k3_t1 : Fin k3_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let v216 : Index := Scalar.indexCast v5
  let c2_73 : Index := 2#32
  let c2_74 : Index := 2#32
  let c0_75 : Index := 0#32
  ![v216.toNat, 2, 2, 0]
def k3_off22 (k3_t1 : Fin k3_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let v228 : Index := Scalar.indexCast v5
  let c2_77 : Index := 2#32
  let c3_78 : Index := 3#32
  let c0_79 : Index := 0#32
  ![v228.toNat, 2, 3, 0]
def k3_off23 (k3_t1 : Fin k3_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let v240 : Index := Scalar.indexCast v5
  let c2_81 : Index := 2#32
  let c4_82 : Index := 4#32
  let c0_83 : Index := 0#32
  ![v240.toNat, 2, 4, 0]
def k3_off24 (k3_t1 : Fin k3_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let v252 : Index := Scalar.indexCast v5
  let c2_85 : Index := 2#32
  let c5_86 : Index := 5#32
  let c0_87 : Index := 0#32
  ![v252.toNat, 2, 5, 0]
def k3_off25 (k3_t1 : Fin k3_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let v264 : Index := Scalar.indexCast v5
  let c3_89 : Index := 3#32
  let c6_90 : Index := 6#32
  let c0_91 : Index := 0#32
  ![v264.toNat, 3, 6, 0]
def k3_off26 (k3_t1 : Fin k3_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let v270 : Index := Scalar.indexCast v5
  let c3_92 : Index := 3#32
  let c7_93 : Index := 7#32
  let c0_94 : Index := 0#32
  ![v270.toNat, 3, 7, 0]
def k3_off27 (k3_t1 : Fin k3_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let v276 : Index := Scalar.indexCast v5
  let c3_95 : Index := 3#32
  let c0_96 : Index := 0#32
  let c0_97 : Index := 0#32
  ![v276.toNat, 3, 0, 0]
def k3_off28 (k3_t1 : Fin k3_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let v288 : Index := Scalar.indexCast v5
  let c3_99 : Index := 3#32
  let c1_100 : Index := 1#32
  let c0_101 : Index := 0#32
  ![v288.toNat, 3, 1, 0]
def k3_off29 (k3_t1 : Fin k3_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let v300 : Index := Scalar.indexCast v5
  let c3_103 : Index := 3#32
  let c2_104 : Index := 2#32
  let c0_105 : Index := 0#32
  ![v300.toNat, 3, 2, 0]
def k3_off30 (k3_t1 : Fin k3_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let v312 : Index := Scalar.indexCast v5
  let c3_107 : Index := 3#32
  let c3_108 : Index := 3#32
  let c0_109 : Index := 0#32
  ![v312.toNat, 3, 3, 0]
def k3_off31 (k3_t1 : Fin k3_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let v324 : Index := Scalar.indexCast v5
  let c3_111 : Index := 3#32
  let c4_112 : Index := 4#32
  let c0_113 : Index := 0#32
  ![v324.toNat, 3, 4, 0]
def k3_off32 (k3_t1 : Fin k3_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let v336 : Index := Scalar.indexCast v5
  let c3_115 : Index := 3#32
  let c5_116 : Index := 5#32
  let c0_117 : Index := 0#32
  ![v336.toNat, 3, 5, 0]
def k3_off33 (k3_t1 : Fin k3_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let v348 : Index := Scalar.indexCast v5
  let c4_119 : Index := 4#32
  let c6_120 : Index := 6#32
  let c0_121 : Index := 0#32
  ![v348.toNat, 4, 6, 0]
def k3_off34 (k3_t1 : Fin k3_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let v354 : Index := Scalar.indexCast v5
  let c4_122 : Index := 4#32
  let c7_123 : Index := 7#32
  let c0_124 : Index := 0#32
  ![v354.toNat, 4, 7, 0]
def k3_off35 (k3_t1 : Fin k3_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let v360 : Index := Scalar.indexCast v5
  let c4_125 : Index := 4#32
  let c0_126 : Index := 0#32
  let c0_127 : Index := 0#32
  ![v360.toNat, 4, 0, 0]
def k3_off36 (k3_t1 : Fin k3_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let v372 : Index := Scalar.indexCast v5
  let c4_129 : Index := 4#32
  let c1_130 : Index := 1#32
  let c0_131 : Index := 0#32
  ![v372.toNat, 4, 1, 0]
def k3_off37 (k3_t1 : Fin k3_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let v384 : Index := Scalar.indexCast v5
  let c4_133 : Index := 4#32
  let c2_134 : Index := 2#32
  let c0_135 : Index := 0#32
  ![v384.toNat, 4, 2, 0]
def k3_off38 (k3_t1 : Fin k3_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let v396 : Index := Scalar.indexCast v5
  let c4_137 : Index := 4#32
  let c3_138 : Index := 3#32
  let c0_139 : Index := 0#32
  ![v396.toNat, 4, 3, 0]
def k3_off39 (k3_t1 : Fin k3_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let v408 : Index := Scalar.indexCast v5
  let c4_141 : Index := 4#32
  let c4_142 : Index := 4#32
  let c0_143 : Index := 0#32
  ![v408.toNat, 4, 4, 0]
def k3_off40 (k3_t1 : Fin k3_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let v420 : Index := Scalar.indexCast v5
  let c4_145 : Index := 4#32
  let c5_146 : Index := 5#32
  let c0_147 : Index := 0#32
  ![v420.toNat, 4, 5, 0]
def k3_off41 (k3_t1 : Fin k3_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let v432 : Index := Scalar.indexCast v5
  let c5_149 : Index := 5#32
  let c6_150 : Index := 6#32
  let c0_151 : Index := 0#32
  ![v432.toNat, 5, 6, 0]
def k3_off42 (k3_t1 : Fin k3_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let v438 : Index := Scalar.indexCast v5
  let c5_152 : Index := 5#32
  let c7_153 : Index := 7#32
  let c0_154 : Index := 0#32
  ![v438.toNat, 5, 7, 0]
def k3_off43 (k3_t1 : Fin k3_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let v444 : Index := Scalar.indexCast v5
  let c5_155 : Index := 5#32
  let c0_156 : Index := 0#32
  let c0_157 : Index := 0#32
  ![v444.toNat, 5, 0, 0]
def k3_off44 (k3_t1 : Fin k3_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let v456 : Index := Scalar.indexCast v5
  let c5_159 : Index := 5#32
  let c1_160 : Index := 1#32
  let c0_161 : Index := 0#32
  ![v456.toNat, 5, 1, 0]
def k3_off45 (k3_t1 : Fin k3_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let v468 : Index := Scalar.indexCast v5
  let c5_163 : Index := 5#32
  let c2_164 : Index := 2#32
  let c0_165 : Index := 0#32
  ![v468.toNat, 5, 2, 0]
def k3_off46 (k3_t1 : Fin k3_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let v480 : Index := Scalar.indexCast v5
  let c5_167 : Index := 5#32
  let c3_168 : Index := 3#32
  let c0_169 : Index := 0#32
  ![v480.toNat, 5, 3, 0]
def k3_off47 (k3_t1 : Fin k3_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let v492 : Index := Scalar.indexCast v5
  let c5_171 : Index := 5#32
  let c4_172 : Index := 4#32
  let c0_173 : Index := 0#32
  ![v492.toNat, 5, 4, 0]
def k3_off48 (k3_t1 : Fin k3_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let v504 : Index := Scalar.indexCast v5
  let c5_175 : Index := 5#32
  let c5_176 : Index := 5#32
  let c0_177 : Index := 0#32
  ![v504.toNat, 5, 5, 0]
def k3_mult1 (k3_t1 : Fin k3_t1_loop.trips) : BitVec 32 :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let c128_i32 : BitVec 32 := 128#32
  let v516 : BitVec 32 := Scalar.muli v5 c128_i32
  v516
def k3_off49 (k3_t1 : Fin k3_t1_loop.trips) : Fin 3 → Nat :=
  let c0_179 : Index := 0#32
  let c0_180 : Index := 0#32
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let c128_i32 : BitVec 32 := 128#32
  let v516 : BitVec 32 := Scalar.muli v5 c128_i32
  let v517 : BitVec 32 := v516
  let v518 : Index := Scalar.indexCast v517
  ![0, 0, v518.toNat]
def k3_mult2 (k3_t1 : Fin k3_t1_loop.trips) : BitVec 32 :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let c128_i32_181 : BitVec 32 := 128#32
  let v522 : BitVec 32 := Scalar.muli v5 c128_i32_181
  v522
def k3_off50 (k3_t1 : Fin k3_t1_loop.trips) : Fin 3 → Nat :=
  let c0_182 : Index := 0#32
  let c8 : Index := 8#32
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let c128_i32_181 : BitVec 32 := 128#32
  let v522 : BitVec 32 := Scalar.muli v5 c128_i32_181
  let v523 : BitVec 32 := v522
  let v524 : Index := Scalar.indexCast v523
  ![0, 8, v524.toNat]
def k3_mult3 (k3_t1 : Fin k3_t1_loop.trips) : BitVec 32 :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let c128_i32_183 : BitVec 32 := 128#32
  let v528 : BitVec 32 := Scalar.muli v5 c128_i32_183
  v528
def k3_off51 (k3_t1 : Fin k3_t1_loop.trips) : Fin 3 → Nat :=
  let c0_184 : Index := 0#32
  let c16 : Index := 16#32
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let c128_i32_183 : BitVec 32 := 128#32
  let v528 : BitVec 32 := Scalar.muli v5 c128_i32_183
  let v529 : BitVec 32 := v528
  let v530 : Index := Scalar.indexCast v529
  ![0, 16, v530.toNat]
def k3_mult4 (k3_t1 : Fin k3_t1_loop.trips) : BitVec 32 :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let c128_i32_185 : BitVec 32 := 128#32
  let v534 : BitVec 32 := Scalar.muli v5 c128_i32_185
  v534
def k3_off52 (k3_t1 : Fin k3_t1_loop.trips) : Fin 3 → Nat :=
  let c0_186 : Index := 0#32
  let c24 : Index := 24#32
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let c128_i32_185 : BitVec 32 := 128#32
  let v534 : BitVec 32 := Scalar.muli v5 c128_i32_185
  let v535 : BitVec 32 := v534
  let v536 : Index := Scalar.indexCast v535
  ![0, 24, v536.toNat]
def k3_mult5 (k3_t1 : Fin k3_t1_loop.trips) : BitVec 32 :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let c128_i32_187 : BitVec 32 := 128#32
  let v540 : BitVec 32 := Scalar.muli v5 c128_i32_187
  v540
def k3_off53 (k3_t1 : Fin k3_t1_loop.trips) : Fin 3 → Nat :=
  let c0_188 : Index := 0#32
  let c32 : Index := 32#32
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let c128_i32_187 : BitVec 32 := 128#32
  let v540 : BitVec 32 := Scalar.muli v5 c128_i32_187
  let v541 : BitVec 32 := v540
  let v542 : Index := Scalar.indexCast v541
  ![0, 32, v542.toNat]
def k3_mult6 (k3_t1 : Fin k3_t1_loop.trips) : BitVec 32 :=
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let c128_i32_189 : BitVec 32 := 128#32
  let v546 : BitVec 32 := Scalar.muli v5 c128_i32_189
  v546
def k3_off54 (k3_t1 : Fin k3_t1_loop.trips) : Fin 3 → Nat :=
  let c0_190 : Index := 0#32
  let c40 : Index := 40#32
  let c0_i32_2 : BitVec 32 := 0#32
  let c0_i32 : BitVec 32 := 0#32
  let c1_i32 : BitVec 32 := 1#32
  let arg5 : BitVec 32 := Scf.iv c0_i32 c1_i32 k3_t1
  let c1_i32_1 : BitVec 32 := 1#32
  let v4 : BitVec 32 := Scalar.muli arg5 c1_i32_1
  let v5 : BitVec 32 := Scalar.addi c0_i32_2 v4
  let c128_i32_189 : BitVec 32 := 128#32
  let v546 : BitVec 32 := Scalar.muli v5 c128_i32_189
  let v547 : BitVec 32 := v546
  let v548 : Index := Scalar.indexCast v547
  ![0, 40, v548.toNat]
def cc3_transform_0 (i : grid3.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc3_transform_2 (i : grid3.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![v0.toNat, c0_i32.toNat, arg1.toNat]

abbrev stage3_0 : Fin 2 → Memref sig .tc .vmem S8x6x8x128 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x48x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev grid4 : Pipeline.Grid := ⟨2, ![8, 8], ![false, false]⟩

@[reducible] def k4_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k4_off1 (k4_t1 : Fin k4_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let v12 : Index := Scalar.indexCast v5
  let c0 : Index := 0#32
  let c6 : Index := 6#32
  let c0_8 : Index := 0#32
  ![v12.toNat, 0, 6, 0]
def k4_off2 (k4_t1 : Fin k4_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let v18 : Index := Scalar.indexCast v5
  let c0_9 : Index := 0#32
  let c7 : Index := 7#32
  let c0_10 : Index := 0#32
  ![v18.toNat, 0, 7, 0]
def k4_off3 (k4_t1 : Fin k4_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let v24 : Index := Scalar.indexCast v5
  let c0_11 : Index := 0#32
  let c0_12 : Index := 0#32
  let c0_13 : Index := 0#32
  ![v24.toNat, 0, 0, 0]
def k4_off4 (k4_t1 : Fin k4_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let v36 : Index := Scalar.indexCast v5
  let c0_14 : Index := 0#32
  let c1 : Index := 1#32
  let c0_15 : Index := 0#32
  ![v36.toNat, 0, 1, 0]
def k4_off5 (k4_t1 : Fin k4_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let v48 : Index := Scalar.indexCast v5
  let c0_17 : Index := 0#32
  let c2 : Index := 2#32
  let c0_18 : Index := 0#32
  ![v48.toNat, 0, 2, 0]
def k4_off6 (k4_t1 : Fin k4_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let v60 : Index := Scalar.indexCast v5
  let c0_20 : Index := 0#32
  let c3 : Index := 3#32
  let c0_21 : Index := 0#32
  ![v60.toNat, 0, 3, 0]
def k4_off7 (k4_t1 : Fin k4_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let v72 : Index := Scalar.indexCast v5
  let c0_23 : Index := 0#32
  let c4 : Index := 4#32
  let c0_24 : Index := 0#32
  ![v72.toNat, 0, 4, 0]
def k4_off8 (k4_t1 : Fin k4_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let v84 : Index := Scalar.indexCast v5
  let c0_26 : Index := 0#32
  let c5 : Index := 5#32
  let c0_27 : Index := 0#32
  ![v84.toNat, 0, 5, 0]
def k4_off9 (k4_t1 : Fin k4_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let v96 : Index := Scalar.indexCast v5
  let c1_29 : Index := 1#32
  let c6_30 : Index := 6#32
  let c0_31 : Index := 0#32
  ![v96.toNat, 1, 6, 0]
def k4_off10 (k4_t1 : Fin k4_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let v102 : Index := Scalar.indexCast v5
  let c1_32 : Index := 1#32
  let c7_33 : Index := 7#32
  let c0_34 : Index := 0#32
  ![v102.toNat, 1, 7, 0]
def k4_off11 (k4_t1 : Fin k4_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let v108 : Index := Scalar.indexCast v5
  let c1_35 : Index := 1#32
  let c0_36 : Index := 0#32
  let c0_37 : Index := 0#32
  ![v108.toNat, 1, 0, 0]
def k4_off12 (k4_t1 : Fin k4_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let v120 : Index := Scalar.indexCast v5
  let c1_39 : Index := 1#32
  let c1_40 : Index := 1#32
  let c0_41 : Index := 0#32
  ![v120.toNat, 1, 1, 0]
def k4_off13 (k4_t1 : Fin k4_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let v132 : Index := Scalar.indexCast v5
  let c1_43 : Index := 1#32
  let c2_44 : Index := 2#32
  let c0_45 : Index := 0#32
  ![v132.toNat, 1, 2, 0]
def k4_off14 (k4_t1 : Fin k4_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let v144 : Index := Scalar.indexCast v5
  let c1_47 : Index := 1#32
  let c3_48 : Index := 3#32
  let c0_49 : Index := 0#32
  ![v144.toNat, 1, 3, 0]
def k4_off15 (k4_t1 : Fin k4_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let v156 : Index := Scalar.indexCast v5
  let c1_51 : Index := 1#32
  let c4_52 : Index := 4#32
  let c0_53 : Index := 0#32
  ![v156.toNat, 1, 4, 0]
def k4_off16 (k4_t1 : Fin k4_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let v168 : Index := Scalar.indexCast v5
  let c1_55 : Index := 1#32
  let c5_56 : Index := 5#32
  let c0_57 : Index := 0#32
  ![v168.toNat, 1, 5, 0]
def k4_off17 (k4_t1 : Fin k4_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let v180 : Index := Scalar.indexCast v5
  let c2_59 : Index := 2#32
  let c6_60 : Index := 6#32
  let c0_61 : Index := 0#32
  ![v180.toNat, 2, 6, 0]
def k4_off18 (k4_t1 : Fin k4_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let v186 : Index := Scalar.indexCast v5
  let c2_62 : Index := 2#32
  let c7_63 : Index := 7#32
  let c0_64 : Index := 0#32
  ![v186.toNat, 2, 7, 0]
def k4_off19 (k4_t1 : Fin k4_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let v192 : Index := Scalar.indexCast v5
  let c2_65 : Index := 2#32
  let c0_66 : Index := 0#32
  let c0_67 : Index := 0#32
  ![v192.toNat, 2, 0, 0]
def k4_off20 (k4_t1 : Fin k4_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let v204 : Index := Scalar.indexCast v5
  let c2_69 : Index := 2#32
  let c1_70 : Index := 1#32
  let c0_71 : Index := 0#32
  ![v204.toNat, 2, 1, 0]
def k4_off21 (k4_t1 : Fin k4_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let v216 : Index := Scalar.indexCast v5
  let c2_73 : Index := 2#32
  let c2_74 : Index := 2#32
  let c0_75 : Index := 0#32
  ![v216.toNat, 2, 2, 0]
def k4_off22 (k4_t1 : Fin k4_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let v228 : Index := Scalar.indexCast v5
  let c2_77 : Index := 2#32
  let c3_78 : Index := 3#32
  let c0_79 : Index := 0#32
  ![v228.toNat, 2, 3, 0]
def k4_off23 (k4_t1 : Fin k4_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let v240 : Index := Scalar.indexCast v5
  let c2_81 : Index := 2#32
  let c4_82 : Index := 4#32
  let c0_83 : Index := 0#32
  ![v240.toNat, 2, 4, 0]
def k4_off24 (k4_t1 : Fin k4_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let v252 : Index := Scalar.indexCast v5
  let c2_85 : Index := 2#32
  let c5_86 : Index := 5#32
  let c0_87 : Index := 0#32
  ![v252.toNat, 2, 5, 0]
def k4_off25 (k4_t1 : Fin k4_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let v264 : Index := Scalar.indexCast v5
  let c3_89 : Index := 3#32
  let c6_90 : Index := 6#32
  let c0_91 : Index := 0#32
  ![v264.toNat, 3, 6, 0]
def k4_off26 (k4_t1 : Fin k4_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let v270 : Index := Scalar.indexCast v5
  let c3_92 : Index := 3#32
  let c7_93 : Index := 7#32
  let c0_94 : Index := 0#32
  ![v270.toNat, 3, 7, 0]
def k4_off27 (k4_t1 : Fin k4_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let v276 : Index := Scalar.indexCast v5
  let c3_95 : Index := 3#32
  let c0_96 : Index := 0#32
  let c0_97 : Index := 0#32
  ![v276.toNat, 3, 0, 0]
def k4_off28 (k4_t1 : Fin k4_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let v288 : Index := Scalar.indexCast v5
  let c3_99 : Index := 3#32
  let c1_100 : Index := 1#32
  let c0_101 : Index := 0#32
  ![v288.toNat, 3, 1, 0]
def k4_off29 (k4_t1 : Fin k4_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let v300 : Index := Scalar.indexCast v5
  let c3_103 : Index := 3#32
  let c2_104 : Index := 2#32
  let c0_105 : Index := 0#32
  ![v300.toNat, 3, 2, 0]
def k4_off30 (k4_t1 : Fin k4_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let v312 : Index := Scalar.indexCast v5
  let c3_107 : Index := 3#32
  let c3_108 : Index := 3#32
  let c0_109 : Index := 0#32
  ![v312.toNat, 3, 3, 0]
def k4_off31 (k4_t1 : Fin k4_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let v324 : Index := Scalar.indexCast v5
  let c3_111 : Index := 3#32
  let c4_112 : Index := 4#32
  let c0_113 : Index := 0#32
  ![v324.toNat, 3, 4, 0]
def k4_off32 (k4_t1 : Fin k4_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let v336 : Index := Scalar.indexCast v5
  let c3_115 : Index := 3#32
  let c5_116 : Index := 5#32
  let c0_117 : Index := 0#32
  ![v336.toNat, 3, 5, 0]
def k4_off33 (k4_t1 : Fin k4_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let v348 : Index := Scalar.indexCast v5
  let c4_119 : Index := 4#32
  let c6_120 : Index := 6#32
  let c0_121 : Index := 0#32
  ![v348.toNat, 4, 6, 0]
def k4_off34 (k4_t1 : Fin k4_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let v354 : Index := Scalar.indexCast v5
  let c4_122 : Index := 4#32
  let c7_123 : Index := 7#32
  let c0_124 : Index := 0#32
  ![v354.toNat, 4, 7, 0]
def k4_off35 (k4_t1 : Fin k4_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let v360 : Index := Scalar.indexCast v5
  let c4_125 : Index := 4#32
  let c0_126 : Index := 0#32
  let c0_127 : Index := 0#32
  ![v360.toNat, 4, 0, 0]
def k4_off36 (k4_t1 : Fin k4_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let v372 : Index := Scalar.indexCast v5
  let c4_129 : Index := 4#32
  let c1_130 : Index := 1#32
  let c0_131 : Index := 0#32
  ![v372.toNat, 4, 1, 0]
def k4_off37 (k4_t1 : Fin k4_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let v384 : Index := Scalar.indexCast v5
  let c4_133 : Index := 4#32
  let c2_134 : Index := 2#32
  let c0_135 : Index := 0#32
  ![v384.toNat, 4, 2, 0]
def k4_off38 (k4_t1 : Fin k4_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let v396 : Index := Scalar.indexCast v5
  let c4_137 : Index := 4#32
  let c3_138 : Index := 3#32
  let c0_139 : Index := 0#32
  ![v396.toNat, 4, 3, 0]
def k4_off39 (k4_t1 : Fin k4_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let v408 : Index := Scalar.indexCast v5
  let c4_141 : Index := 4#32
  let c4_142 : Index := 4#32
  let c0_143 : Index := 0#32
  ![v408.toNat, 4, 4, 0]
def k4_off40 (k4_t1 : Fin k4_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let v420 : Index := Scalar.indexCast v5
  let c4_145 : Index := 4#32
  let c5_146 : Index := 5#32
  let c0_147 : Index := 0#32
  ![v420.toNat, 4, 5, 0]
def k4_off41 (k4_t1 : Fin k4_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let v432 : Index := Scalar.indexCast v5
  let c5_149 : Index := 5#32
  let c6_150 : Index := 6#32
  let c0_151 : Index := 0#32
  ![v432.toNat, 5, 6, 0]
def k4_off42 (k4_t1 : Fin k4_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let v438 : Index := Scalar.indexCast v5
  let c5_152 : Index := 5#32
  let c7_153 : Index := 7#32
  let c0_154 : Index := 0#32
  ![v438.toNat, 5, 7, 0]
def k4_off43 (k4_t1 : Fin k4_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let v444 : Index := Scalar.indexCast v5
  let c5_155 : Index := 5#32
  let c0_156 : Index := 0#32
  let c0_157 : Index := 0#32
  ![v444.toNat, 5, 0, 0]
def k4_off44 (k4_t1 : Fin k4_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let v456 : Index := Scalar.indexCast v5
  let c5_159 : Index := 5#32
  let c1_160 : Index := 1#32
  let c0_161 : Index := 0#32
  ![v456.toNat, 5, 1, 0]
def k4_off45 (k4_t1 : Fin k4_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let v468 : Index := Scalar.indexCast v5
  let c5_163 : Index := 5#32
  let c2_164 : Index := 2#32
  let c0_165 : Index := 0#32
  ![v468.toNat, 5, 2, 0]
def k4_off46 (k4_t1 : Fin k4_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let v480 : Index := Scalar.indexCast v5
  let c5_167 : Index := 5#32
  let c3_168 : Index := 3#32
  let c0_169 : Index := 0#32
  ![v480.toNat, 5, 3, 0]
def k4_off47 (k4_t1 : Fin k4_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let v492 : Index := Scalar.indexCast v5
  let c5_171 : Index := 5#32
  let c4_172 : Index := 4#32
  let c0_173 : Index := 0#32
  ![v492.toNat, 5, 4, 0]
def k4_off48 (k4_t1 : Fin k4_t1_loop.trips) : Fin 4 → Nat :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let v504 : Index := Scalar.indexCast v5
  let c5_175 : Index := 5#32
  let c5_176 : Index := 5#32
  let c0_177 : Index := 0#32
  ![v504.toNat, 5, 5, 0]
def k4_mult1 (k4_t1 : Fin k4_t1_loop.trips) : BitVec 32 :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let c128_i32 : BitVec 32 := 128#32
  let v516 : BitVec 32 := Scalar.muli v5 c128_i32
  v516
def k4_off49 (k4_t1 : Fin k4_t1_loop.trips) : Fin 3 → Nat :=
  let c0_179 : Index := 0#32
  let c0_180 : Index := 0#32
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let c128_i32 : BitVec 32 := 128#32
  let v516 : BitVec 32 := Scalar.muli v5 c128_i32
  let v517 : BitVec 32 := v516
  let v518 : Index := Scalar.indexCast v517
  ![0, 0, v518.toNat]
def k4_mult2 (k4_t1 : Fin k4_t1_loop.trips) : BitVec 32 :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let c128_i32_181 : BitVec 32 := 128#32
  let v522 : BitVec 32 := Scalar.muli v5 c128_i32_181
  v522
def k4_off50 (k4_t1 : Fin k4_t1_loop.trips) : Fin 3 → Nat :=
  let c0_182 : Index := 0#32
  let c8 : Index := 8#32
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let c128_i32_181 : BitVec 32 := 128#32
  let v522 : BitVec 32 := Scalar.muli v5 c128_i32_181
  let v523 : BitVec 32 := v522
  let v524 : Index := Scalar.indexCast v523
  ![0, 8, v524.toNat]
def k4_mult3 (k4_t1 : Fin k4_t1_loop.trips) : BitVec 32 :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let c128_i32_183 : BitVec 32 := 128#32
  let v528 : BitVec 32 := Scalar.muli v5 c128_i32_183
  v528
def k4_off51 (k4_t1 : Fin k4_t1_loop.trips) : Fin 3 → Nat :=
  let c0_184 : Index := 0#32
  let c16 : Index := 16#32
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let c128_i32_183 : BitVec 32 := 128#32
  let v528 : BitVec 32 := Scalar.muli v5 c128_i32_183
  let v529 : BitVec 32 := v528
  let v530 : Index := Scalar.indexCast v529
  ![0, 16, v530.toNat]
def k4_mult4 (k4_t1 : Fin k4_t1_loop.trips) : BitVec 32 :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let c128_i32_185 : BitVec 32 := 128#32
  let v534 : BitVec 32 := Scalar.muli v5 c128_i32_185
  v534
def k4_off52 (k4_t1 : Fin k4_t1_loop.trips) : Fin 3 → Nat :=
  let c0_186 : Index := 0#32
  let c24 : Index := 24#32
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let c128_i32_185 : BitVec 32 := 128#32
  let v534 : BitVec 32 := Scalar.muli v5 c128_i32_185
  let v535 : BitVec 32 := v534
  let v536 : Index := Scalar.indexCast v535
  ![0, 24, v536.toNat]
def k4_mult5 (k4_t1 : Fin k4_t1_loop.trips) : BitVec 32 :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let c128_i32_187 : BitVec 32 := 128#32
  let v540 : BitVec 32 := Scalar.muli v5 c128_i32_187
  v540
def k4_off53 (k4_t1 : Fin k4_t1_loop.trips) : Fin 3 → Nat :=
  let c0_188 : Index := 0#32
  let c32 : Index := 32#32
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let c128_i32_187 : BitVec 32 := 128#32
  let v540 : BitVec 32 := Scalar.muli v5 c128_i32_187
  let v541 : BitVec 32 := v540
  let v542 : Index := Scalar.indexCast v541
  ![0, 32, v542.toNat]
def k4_mult6 (k4_t1 : Fin k4_t1_loop.trips) : BitVec 32 :=
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let c128_i32_189 : BitVec 32 := 128#32
  let v546 : BitVec 32 := Scalar.muli v5 c128_i32_189
  v546
def k4_off54 (k4_t1 : Fin k4_t1_loop.trips) : Fin 3 → Nat :=
  let c0_190 : Index := 0#32
  let c40 : Index := 40#32
  let c0_i32_2 : BitVec 32 := 0#32
  let c0_i32 : BitVec 32 := 0#32
  let c1_i32 : BitVec 32 := 1#32
  let arg5 : BitVec 32 := Scf.iv c0_i32 c1_i32 k4_t1
  let c1_i32_1 : BitVec 32 := 1#32
  let v4 : BitVec 32 := Scalar.muli arg5 c1_i32_1
  let v5 : BitVec 32 := Scalar.addi c0_i32_2 v4
  let c128_i32_189 : BitVec 32 := 128#32
  let v546 : BitVec 32 := Scalar.muli v5 c128_i32_189
  let v547 : BitVec 32 := v546
  let v548 : Index := Scalar.indexCast v547
  ![0, 40, v548.toNat]
def cc4_transform_0 (i : grid4.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc4_transform_2 (i : grid4.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![v0.toNat, c0_i32.toNat, arg1.toNat]

abbrev stage4_0 : Fin 2 → Memref sig .tc .vmem S8x6x8x128 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x48x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]
-- ==== ReferenceIdeal.lean ====
abbrev S512x6x8x128 : Shape := ⟨4, ![512, 6, 8, 128]⟩
abbrev S2560x6x8x128 : Shape := ⟨4, ![2560, 6, 8, 128]⟩
abbrev S2560x6x1x128 : Shape := ⟨4, ![2560, 6, 1, 128]⟩
abbrev S2560x6x128 : Shape := ⟨3, ![2560, 6, 128]⟩
abbrev S2560x6x1x1x128 : Shape := ⟨5, ![2560, 6, 1, 1, 128]⟩
abbrev S2560x6x6x128 : Shape := ⟨4, ![2560, 6, 6, 128]⟩
abbrev S2560x6x6x1x128 : Shape := ⟨5, ![2560, 6, 6, 1, 128]⟩
abbrev S2560x6x6x8x128 : Shape := ⟨5, ![2560, 6, 6, 8, 128]⟩
abbrev S8 : Shape := ⟨1, ![8]⟩
abbrev S8x1 : Shape := ⟨2, ![8, 1]⟩
abbrev S_ : Shape := ⟨0, ![]⟩
abbrev S2560x48x128 : Shape := ⟨3, ![2560, 48, 128]⟩
abbrev S2560x128x48 : Shape := ⟨3, ![2560, 128, 48]⟩
abbrev S40x8192x48 : Shape := ⟨3, ![40, 8192, 48]⟩

abbrev nBuf : Space → Nat
  | .hbm => 37
  | .vmem => 0
  | .smem => 0
  | _ => 0

abbrev bufTy : (tb : Table) → Fin (tcTables nBuf tb) → BufTy
  | .hbm, ⟨0, _⟩ => ⟨S512x6x8x128, .i32⟩
  | .hbm, ⟨1, _⟩ => ⟨S512x6x8x128, .i32⟩
  | .hbm, ⟨2, _⟩ => ⟨S512x6x8x128, .i32⟩
  | .hbm, ⟨3, _⟩ => ⟨S512x6x8x128, .i32⟩
  | .hbm, ⟨4, _⟩ => ⟨S512x6x8x128, .i32⟩
  | .hbm, ⟨5, _⟩ => ⟨S2560x6x8x128, .i32⟩
  | .hbm, ⟨6, _⟩ => ⟨S2560x6x1x128, .i32⟩
  | .hbm, ⟨7, _⟩ => ⟨S2560x6x128, .i32⟩
  | .hbm, ⟨8, _⟩ => ⟨S2560x6x128, .f32⟩
  | .hbm, ⟨9, _⟩ => ⟨S2560x6x1x1x128, .f32⟩
  | .hbm, ⟨10, _⟩ => ⟨S2560x6x1x128, .i32⟩
  | .hbm, ⟨11, _⟩ => ⟨S2560x6x128, .i32⟩
  | .hbm, ⟨12, _⟩ => ⟨S2560x6x128, .f32⟩
  | .hbm, ⟨13, _⟩ => ⟨S2560x6x1x1x128, .f32⟩
  | .hbm, ⟨14, _⟩ => ⟨S2560x6x6x128, .i32⟩
  | .hbm, ⟨15, _⟩ => ⟨S2560x6x6x1x128, .i32⟩
  | .hbm, ⟨16, _⟩ => ⟨S2560x6x6x8x128, .i32⟩
  | .hbm, ⟨17, _⟩ => ⟨S8, .i32⟩
  | .hbm, ⟨18, _⟩ => ⟨S8x1, .i32⟩
  | .hbm, ⟨19, _⟩ => ⟨S_, .i32⟩
  | .hbm, ⟨20, _⟩ => ⟨S8x1, .i32⟩
  | .hbm, ⟨21, _⟩ => ⟨S8x1, .i32⟩
  | .hbm, ⟨22, _⟩ => ⟨S2560x6x6x8x128, .i32⟩
  | .hbm, ⟨23, _⟩ => ⟨S2560x6x6x8x128, .i32⟩
  | .hbm, ⟨24, _⟩ => ⟨S_, .i32⟩
  | .hbm, ⟨25, _⟩ => ⟨S2560x6x6x8x128, .i32⟩
  | .hbm, ⟨26, _⟩ => ⟨S2560x6x6x8x128, .i32⟩
  | .hbm, ⟨27, _⟩ => ⟨S2560x6x6x8x128, .f32⟩
  | .hbm, ⟨28, _⟩ => ⟨S2560x6x6x8x128, .f32⟩
  | .hbm, ⟨29, _⟩ => ⟨S2560x6x6x8x128, .f32⟩
  | .hbm, ⟨30, _⟩ => ⟨S2560x6x6x8x128, .f32⟩
  | .hbm, ⟨31, _⟩ => ⟨S2560x6x6x8x128, .f32⟩
  | .hbm, ⟨32, _⟩ => ⟨S_, .f32⟩
  | .hbm, ⟨33, _⟩ => ⟨S2560x6x8x128, .f32⟩
  | .hbm, ⟨34, _⟩ => ⟨S2560x48x128, .f32⟩
  | .hbm, ⟨35, _⟩ => ⟨S2560x128x48, .f32⟩
  | .hbm, ⟨36, _⟩ => ⟨S40x8192x48, .f32⟩
  | _, _ => ⟨S512x6x8x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Proof.Block.lean ====
module
public import proofs.«01_k».proof.Proof.Gen.KernelIdeal.Frame
public import Idealize.ShloMosaic.Lib.Pipeline.ValueKit
public import Idealize.ShloMosaic.Lib.Pointwise
@[expose] public section
namespace Cert.KernelIdeal.Val
open Idealize.ShloMosaic Idealize.ShloMosaic.TcCoe Idealize.ShloMosaic.Tactic
open Idealize.SL Idealize.SL.RA Idealize.SL.BI
open Idealize.ShloMosaic.Pipeline (Dat Cfg Window BodyObligation cellOf)
open Cert.KernelIdeal Cert.KernelIdeal.Gen
set_option maxRecDepth 16384
noncomputable section
variable {F : FTy → Type} [FloatOps F]

/-- A row of 128 lanes of a staged block lies inside it. -/
theorem row_inb (b kk w : ℕ) (hb : b < 8) (hk : kk < 6) (hw : w < 8) :
    ∀ a : Fin S8x6x8x128.rank, (![b, kk, w, 0] : Fin 4 → ℕ) a + S1x1x1x128.size a ≤ S8x6x8x128.size a := by
  intro a; fin_cases a <;> simp [S1x1x1x128, S8x6x8x128] <;> omega

/-- The 128 words a load of block `b`, position `kk`, word `w` reads of a staged block. -/
def row (x : Vec F S8x6x8x128 .i32) (b kk w : ℕ)
    (inb : ∀ a : Fin S8x6x8x128.rank, (![b, kk, w, 0] : Fin 4 → ℕ) a + S1x1x1x128.size a ≤ S8x6x8x128.size a) : Vec F S1x1x1x128 .i32 :=
  View.ld (e' := .i32) x (Rect.unit (s := S8x6x8x128) ![b, kk, w, 0] S1x1x1x128.size inb)

/-- A load at printed offsets is the row their closed form names. -/
theorem ld_row (x : Vec F S8x6x8x128 .i32) {off : Fin 4 → ℕ} {b kk w : ℕ} (h : off = ![b, kk, w, 0])
    (inb : ∀ a : Fin S8x6x8x128.rank, off a + S1x1x1x128.size a ≤ S8x6x8x128.size a) :
    View.ld (e' := .i32) x (Rect.unit (s := S8x6x8x128) off S1x1x1x128.size inb) = row x b kk w (h ▸ inb) := by
  subst h; rfl

/-- A tile stored at printed offsets is the tile their closed form names. -/
theorem tile_eq {off : Fin 3 → ℕ} {b w : ℕ} (h : off = ![0, w, b])
    (inb : ∀ a : Fin S1x48x1024.rank, off a + S1x8x128.size a ≤ S1x48x1024.size a)
    (inb' : ∀ a : Fin S1x48x1024.rank, (![0, w, b] : Fin 3 → ℕ) a + S1x8x128.size a ≤ S1x48x1024.size a)
    (v v' : Vec F S1x8x128 .f32) (hv : v = v') :
    (⟨Rect.unit (s := S1x48x1024) off S1x8x128.size inb, v⟩ : View.Piece (Elt F) S1x48x1024 .f32)
      = ⟨Rect.unit (s := S1x48x1024) ![0, w, b] S1x8x128.size inb', v'⟩ := by
  subst h hv; rfl

/-- A row of words broadcast over eight sublanes. -/
def sub8 (v : Vec F S1x1x1x128 .i32) : IVec S8x128 32 :=
  broadcastTo S8x128 (shapeCast S1x128 (shapeCast S1x128 v shapeCasts_S1x1x1x128_S1x128) shapeCasts_S1x128_S1x128) broadcasts_S1x128_S8x128

/-- Four times the sublane number: how far each sublane shifts its codes. -/
def shifts : IVec S8x128 32 := muli (iota .tc S8x128 32 [0] iota_S8x128_d0_w32) (broadcast S8x128 4#32)

/-- One position's addend: the codes of `vc` times the scale plus the bias, added to `acc`. -/
def step (acc : FVec F S8x128 .f32) (vs vz vc : Vec F S1x1x1x128 .i32) : FVec F S8x128 .f32 :=
  addf acc (addf (mulf (sitofp .f32 (andi (shrui (sub8 vc) shifts) (broadcast S8x128 15#32))) (bitcastToFloat .f32 (sub8 vs)))
    (bitcastToFloat .f32 (sub8 vz)))

/-- The accumulator of code word `w` after the six positions. -/
def acc6 (x : Vec F S8x6x8x128 .i32) (b w : ℕ) (hb : b < 8) (hw : w < 8) : FVec F S8x128 .f32 :=
  step (step (step (step (step (step (broadcast S8x128 (Scalar.ofBits .f32 0x00000000#32))
    (row x b 0 6 (row_inb _ _ _ hb (by omega) (by omega))) (row x b 0 7 (row_inb _ _ _ hb (by omega) (by omega))) (row x b 0 w (row_inb _ _ _ hb (by omega) hw)))
    (row x b 1 6 (row_inb _ _ _ hb (by omega) (by omega))) (row x b 1 7 (row_inb _ _ _ hb (by omega) (by omega))) (row x b 1 w (row_inb _ _ _ hb (by omega) hw)))
    (row x b 2 6 (row_inb _ _ _ hb (by omega) (by omega))) (row x b 2 7 (row_inb _ _ _ hb (by omega) (by omega))) (row x b 2 w (row_inb _ _ _ hb (by omega) hw)))
    (row x b 3 6 (row_inb _ _ _ hb (by omega) (by omega))) (row x b 3 7 (row_inb _ _ _ hb (by omega) (by omega))) (row x b 3 w (row_inb _ _ _ hb (by omega) hw)))
    (row x b 4 6 (row_inb _ _ _ hb (by omega) (by omega))) (row x b 4 7 (row_inb _ _ _ hb (by omega) (by omega))) (row x b 4 w (row_inb _ _ _ hb (by omega) hw)))
    (row x b 5 6 (row_inb _ _ _ hb (by omega) (by omega))) (row x b 5 7 (row_inb _ _ _ hb (by omega) (by omega))) (row x b 5 w (row_inb _ _ _ hb (by omega) hw))

/-- An eight-channel tile of the output block lies inside it. -/
theorem tile_inb (b w : ℕ) (hb : b < 8) (hw : w < 6) :
    ∀ a : Fin S1x48x1024.rank, (![0, 8 * w, 128 * b] : Fin 3 → ℕ) a + S1x8x128.size a ≤ S1x48x1024.size a := by
  intro a; fin_cases a <;> simp [S1x8x128, S1x48x1024] <;> omega

/-- The tile of eight channels that block `b`'s code word `w` fills. -/
def piece (x : Vec F S8x6x8x128 .i32) (b w : ℕ) (hb : b < 8) (hw : w < 6) : View.Piece (Elt F) S1x48x1024 .f32 :=
  ⟨Rect.unit (s := S1x48x1024) ![0, 8 * w, 128 * b] S1x8x128.size (tile_inb b w hb hw),
    shapeCast S1x8x128 (acc6 x b w hb (by omega)) shapeCasts_S8x128_S1x8x128⟩

/-- The six tiles of block `b`, last first. -/
def pieces (x : Vec F S8x6x8x128 .i32) (b : ℕ) (hb : b < 8) : List (View.Piece (Elt F) S1x48x1024 .f32) :=
  [piece x b 5 hb (by omega), piece x b 4 hb (by omega), piece x b 3 hb (by omega), piece x b 2 hb (by omega),
   piece x b 1 hb (by omega), piece x b 0 hb (by omega)]

/-- The four-bit code of channel `i` of a word. -/
def nib (c : BitVec 32) (i : ℕ) : BitVec 32 := (c >>> (4 * i)) &&& 15#32

/-- Shifting right by four times a sublane number, as the vector unit does it. -/
theorem nib_eq (c : BitVec 32) (i : ℕ) (hi : i < 8) :
    IntOp.andi (IntOp.shrui .vector c (IntOp.muli (BitVec.ofNat 32 i) 4#32)) 15#32 = nib c i := by
  have h : (IntOp.muli (BitVec.ofNat 32 i) 4#32).toNat = 4 * i := by
    unfold IntOp.muli; rw [BitVec.toNat_mul]; simp; omega
  unfold nib IntOp.andi IntOp.shrui
  rw [if_pos (by omega), BitVec.ushiftRight_eq', h]

/-- One addend: code times scale plus bias. -/
def addend (s z c : BitVec 32) (i : ℕ) : F .f32 :=
  FloatOps.addf (FloatOps.mulf (FloatOps.sitofp .f32 (nib c i)) (FloatOps.ofBits .f32 s)) (FloatOps.ofBits .f32 z)

/-- Six addends summed in order from zero. -/
def six (f : Fin 6 → F .f32) : F .f32 :=
  FloatOps.addf (FloatOps.addf (FloatOps.addf (FloatOps.addf (FloatOps.addf (FloatOps.addf (FloatOps.ofBits .f32 0x00000000#32) (f 0)) (f 1)) (f 2)) (f 3)) (f 4)) (f 5)

/-- A broadcast row at an index is the row's word at the lane. -/
theorem sub8_apply (v : Vec F S1x1x1x128 .i32) (i : Fin 8) (l : Fin 128) :
    sub8 (F := F) v (ix2 i l) = v (ix4 (0 : Fin 1) (0 : Fin 1) (0 : Fin 1) l) := by
  unfold sub8
  pointwise

/-- One position's step at an index. -/
theorem step_apply (acc : FVec F S8x128 .f32) (vs vz vc : Vec F S1x1x1x128 .i32) (i : Fin 8) (l : Fin 128) :
    step acc vs vz vc (ix2 i l) = FloatOps.addf (acc (ix2 i l)) (addend (vs (ix4 (0 : Fin 1) (0 : Fin 1) (0 : Fin 1) l))
      (vz (ix4 (0 : Fin 1) (0 : Fin 1) (0 : Fin 1) l)) (vc (ix4 (0 : Fin 1) (0 : Fin 1) (0 : Fin 1) l)) i.val) := by
  unfold step addend
  rw [← nib_eq _ _ i.isLt]
  rw [← sub8_apply vs i l, ← sub8_apply vz i l, ← sub8_apply vc i l]
  unfold shifts
  pointwise

/-- A row of a block at a lane is the block's word there. -/
theorem row_apply (x : Vec F S8x6x8x128 .i32) (b kk w : ℕ) (hb : b < 8) (hk : kk < 6) (hw : w < 8) (inb) (l : Fin 128) :
    row x b kk w inb (ix4 (0 : Fin 1) (0 : Fin 1) (0 : Fin 1) l) = x (ix4 (⟨b, hb⟩ : Fin 8) (⟨kk, hk⟩ : Fin 6) (⟨w, hw⟩ : Fin 8) l) := by
  unfold row
  refine congrArg x (funext fun a => Fin.ext ?_)
  fin_cases a <;> simp [Rect.unit, LoadRect.idx, ix4]

/-- The accumulator at an index: the six addends of its lane and channel. -/
theorem acc6_apply (x : Vec F S8x6x8x128 .i32) (b w : ℕ) (hb : b < 8) (hw : w < 8) (i : Fin 8) (l : Fin 128) :
    acc6 x b w hb hw (ix2 i l) = six fun kk => addend (x (ix4 (⟨b, hb⟩ : Fin 8) kk (6 : Fin 8) l)) (x (ix4 (⟨b, hb⟩ : Fin 8) kk (7 : Fin 8) l))
      (x (ix4 (⟨b, hb⟩ : Fin 8) kk (⟨w, hw⟩ : Fin 8) l)) i.val := by
  unfold acc6 six
  simp only [step_apply]
  rw [row_apply x b 0 6 hb (by omega) (by omega), row_apply x b 0 7 hb (by omega) (by omega), row_apply x b 0 w hb (by omega) hw,
    row_apply x b 1 6 hb (by omega) (by omega), row_apply x b 1 7 hb (by omega) (by omega), row_apply x b 1 w hb (by omega) hw,
    row_apply x b 2 6 hb (by omega) (by omega), row_apply x b 2 7 hb (by omega) (by omega), row_apply x b 2 w hb (by omega) hw,
    row_apply x b 3 6 hb (by omega) (by omega), row_apply x b 3 7 hb (by omega) (by omega), row_apply x b 3 w hb (by omega) hw,
    row_apply x b 4 6 hb (by omega) (by omega), row_apply x b 4 7 hb (by omega) (by omega), row_apply x b 4 w hb (by omega) hw,
    row_apply x b 5 6 hb (by omega) (by omega), row_apply x b 5 7 hb (by omega) (by omega), row_apply x b 5 w hb (by omega) hw]
  rfl

/-- What a grid point leaves in its output block, as a function of the staged input block. -/
def blkG (x : Vec F S8x6x8x128 .i32) : Vec F S1x48x1024 .f32 := fun y =>
  six fun kk => addend
    (x (ix4 (⟨(y 2).val / 128, by have := (y 2).isLt; simp at this; omega⟩ : Fin 8) kk (6 : Fin 8) (⟨(y 2).val % 128, by omega⟩ : Fin 128)))
    (x (ix4 (⟨(y 2).val / 128, by have := (y 2).isLt; simp at this; omega⟩ : Fin 8) kk (7 : Fin 8) (⟨(y 2).val % 128, by omega⟩ : Fin 128)))
    (x (ix4 (⟨(y 2).val / 128, by have := (y 2).isLt; simp at this; omega⟩ : Fin 8) kk
      (⟨(y 1).val / 8, by have := (y 1).isLt; simp at this; omega⟩ : Fin 8) (⟨(y 2).val % 128, by omega⟩ : Fin 128)))
    ((y 1).val % 8)

/-- Every tile agrees with the block's function. -/
theorem piece_agrees (x : Vec F S8x6x8x128 .i32) (b w : ℕ) (hb : b < 8) (hw : w < 6) (j : (piece x b w hb hw).1.shape.Idx) :
    (piece x b w hb hw).2 j = blkG x ((piece x b w hb hw).1.emb j) := by
  have e1 : ((piece x b w hb hw).1.emb j 1).val = 8 * w + (j 1).val := by
    show 8 * w + 1 * (j 1).val = _; omega
  have e2 : ((piece x b w hb hw).1.emb j 2).val = 128 * b + (j 2).val := by
    show 128 * b + 1 * (j 2).val = _; omega
  have h1 : (j 1).val < 8 := (j 1).isLt
  have h2 : (j 2).val < 128 := (j 2).isLt
  have hp : (piece x b w hb hw).2 j = acc6 x b w hb (by omega) (ix2 (⟨(j 1).val, h1⟩ : Fin 8) (⟨(j 2).val, h2⟩ : Fin 128)) := by
    show shapeCast S1x8x128 (acc6 x b w hb (by omega)) shapeCasts_S8x128_S1x8x128 j = _
    refine (shapeCast_addUnit_apply ![8, 128] _ _ j).trans (congrArg _ (funext fun a => ?_))
    fin_cases a <;> rfl
  rw [hp, acc6_apply]
  unfold blkG
  simp only [e1, e2]
  have d1 : (8 * w + (j 1).val) / 8 = w := by omega
  have d2 : (8 * w + (j 1).val) % 8 = (j 1).val := by omega
  have d3 : (128 * b + (j 2).val) / 128 = b := by omega
  have d4 : (128 * b + (j 2).val) % 128 = (j 2).val := by omega
  simp only [d1, d2, d3, d4]

/-- So do all six of a trip. -/
theorem pieces_agree (x : Vec F S8x6x8x128 .i32) (b : ℕ) (hb : b < 8) :
    ∀ p ∈ pieces x b hb, ∀ j : p.1.shape.Idx, p.2 j = blkG x (p.1.emb j) := by
  intro p hp
  simp only [pieces, List.mem_cons, List.not_mem_nil, or_false] at hp
  rcases hp with rfl | rfl | rfl | rfl | rfl | rfl <;> exact piece_agrees x _ _ _ _

/-- One trip of region 0's loop writes the six tiles of its block. -/
theorem trip0 (c : Dev nD) (i : grid0.Coords) (arg2 : Memref sig .tc .vmem S8x6x8x128 .i32) (harg2 : arg2.IsWhole)
    (arg3 : Memref sig .tc .vmem S1x48x1024 .f32) (harg3 : arg3.IsWhole) (x : Vec F S8x6x8x128 .i32) (k : Fin k0_t1_loop.trips) (hk : k.val < 8) :
    tripL_k0_t1 (F := F) .none c none i arg2 harg2 arg3 harg3 (harg2.unread x) k = pieces x k.val hk := by
  unfold tripL_k0_t1 trip_k0_t1
  dsimp only
  sl_unfold_run_names
  simp only [View.readAt_eq_ld, harg2.read_unread]
  simp only [ld_row _ (k0_off1_eq k), ld_row _ (k0_off2_eq k), ld_row _ (k0_off3_eq k), ld_row _ (k0_off4_eq k), ld_row _ (k0_off5_eq k), ld_row _ (k0_off6_eq k), ld_row _ (k0_off7_eq k), ld_row _ (k0_off8_eq k), ld_row _ (k0_off9_eq k), ld_row _ (k0_off10_eq k), ld_row _ (k0_off11_eq k), ld_row _ (k0_off12_eq k), ld_row _ (k0_off13_eq k), ld_row _ (k0_off14_eq k), ld_row _ (k0_off15_eq k), ld_row _ (k0_off16_eq k), ld_row _ (k0_off17_eq k), ld_row _ (k0_off18_eq k), ld_row _ (k0_off19_eq k), ld_row _ (k0_off20_eq k), ld_row _ (k0_off21_eq k), ld_row _ (k0_off22_eq k), ld_row _ (k0_off23_eq k), ld_row _ (k0_off24_eq k), ld_row _ (k0_off25_eq k), ld_row _ (k0_off26_eq k), ld_row _ (k0_off27_eq k), ld_row _ (k0_off28_eq k), ld_row _ (k0_off29_eq k), ld_row _ (k0_off30_eq k), ld_row _ (k0_off31_eq k), ld_row _ (k0_off32_eq k), ld_row _ (k0_off33_eq k), ld_row _ (k0_off34_eq k), ld_row _ (k0_off35_eq k), ld_row _ (k0_off36_eq k), ld_row _ (k0_off37_eq k), ld_row _ (k0_off38_eq k), ld_row _ (k0_off39_eq k), ld_row _ (k0_off40_eq k), ld_row _ (k0_off41_eq k), ld_row _ (k0_off42_eq k), ld_row _ (k0_off43_eq k), ld_row _ (k0_off44_eq k), ld_row _ (k0_off45_eq k), ld_row _ (k0_off46_eq k), ld_row _ (k0_off47_eq k), ld_row _ (k0_off48_eq k)]
  refine congrArg₂ List.cons (tile_eq (k0_off54_eq k) _ _ _ _ rfl) <| congrArg₂ List.cons (tile_eq (k0_off53_eq k) _ _ _ _ rfl) <|
    congrArg₂ List.cons (tile_eq (k0_off52_eq k) _ _ _ _ rfl) <| congrArg₂ List.cons (tile_eq (k0_off51_eq k) _ _ _ _ rfl) <|
    congrArg₂ List.cons (tile_eq (k0_off50_eq k) _ _ _ _ rfl) <| congrArg₂ List.cons (tile_eq (k0_off49_eq k) _ _ _ _ rfl) rfl

/-- Every piece the first `n` trips of region 0's loop leave agrees with the block's function. -/
theorem pb0_agree (c : Dev nD) (i : grid0.Coords) (arg2 : Memref sig .tc .vmem S8x6x8x128 .i32) (harg2 : arg2.IsWhole)
    (arg3 : Memref sig .tc .vmem S1x48x1024 .f32) (harg3 : arg3.IsWhole) (x : Vec F S8x6x8x128 .i32) :
    ∀ n, n ≤ k0_t1_loop.trips → ∀ p ∈ pb_k0_t1 (F := F) .none c none i arg2 harg2 arg3 harg3 (harg2.unread x) n,
      ∀ j : p.1.shape.Idx, p.2 j = blkG x (p.1.emb j)
  | 0, _ => by intro p hp; exact absurd hp (by simp [pb_k0_t1])
  | n + 1, hn => by
    intro p hp
    rw [pb_k0_t1_succ (F := F) .none c none i arg2 harg2 arg3 harg3 (harg2.unread x) ⟨n, hn⟩] at hp
    rcases List.mem_append.mp hp with hp | hp
    · have hk : n < 8 := Nat.lt_of_lt_of_le hn k0_t1_abs.2.1
      rw [trip0 c i arg2 harg2 arg3 harg3 x ⟨n, hn⟩ hk] at hp
      exact pieces_agree x n hk p hp
    · exact pb0_agree c i arg2 harg2 arg3 harg3 x n (Nat.le_of_succ_le hn) p hp

/-- What region 0's body leaves in its output block. -/
theorem out0_eq (c : Dev nD) (i : grid0.Coords) (arg2 : Memref sig .tc .vmem S8x6x8x128 .i32) (harg2 : arg2.IsWhole)
    (arg3 : Memref sig .tc .vmem S1x48x1024 .f32) (harg3 : arg3.IsWhole) (x : Vec F S8x6x8x128 .i32) :
    out0_A_1 c i arg2 harg2 arg3 harg3 x = blkG x := by
  unfold out0_A_1
  rw [View.read_writes_junk_eq_canon]
  funext y
  refine View.canon_apply_of_pieces _ _ ?_ y (cover0_A_1 c i arg2 harg2 arg3 harg3 x y)
  unfold kernelRun0_A
  dsimp only
  sl_unfold_run_names
  exact pb0_agree c i arg2 harg2 arg3 harg3 x k0_t1_loop.trips le_rfl

/-- One trip of region 1's loop writes the six tiles of its block. -/
theorem trip1 (c : Dev nD) (i : grid1.Coords) (arg2 : Memref sig .tc .vmem S8x6x8x128 .i32) (harg2 : arg2.IsWhole)
    (arg3 : Memref sig .tc .hbm S40x48x8192 .f32) (harg3 : arg3.IsWhole) (arg4 : Memref sig .tc .vmem S1x48x1024 .f32) (harg4 : arg4.IsWhole) (x : Vec F S8x6x8x128 .i32) (k : Fin k1_t1_loop.trips) (hk : k.val < 8) :
    tripL_k1_t1 (F := F) .none c none i arg2 harg2 arg3 harg3 arg4 harg4 (harg2.unread x) k = pieces x k.val hk := by
  unfold tripL_k1_t1 trip_k1_t1
  dsimp only
  sl_unfold_run_names
  simp only [View.readAt_eq_ld, harg2.read_unread]
  simp only [ld_row _ (k1_off1_eq k), ld_row _ (k1_off2_eq k), ld_row _ (k1_off3_eq k), ld_row _ (k1_off4_eq k), ld_row _ (k1_off5_eq k), ld_row _ (k1_off6_eq k), ld_row _ (k1_off7_eq k), ld_row _ (k1_off8_eq k), ld_row _ (k1_off9_eq k), ld_row _ (k1_off10_eq k), ld_row _ (k1_off11_eq k), ld_row _ (k1_off12_eq k), ld_row _ (k1_off13_eq k), ld_row _ (k1_off14_eq k), ld_row _ (k1_off15_eq k), ld_row _ (k1_off16_eq k), ld_row _ (k1_off17_eq k), ld_row _ (k1_off18_eq k), ld_row _ (k1_off19_eq k), ld_row _ (k1_off20_eq k), ld_row _ (k1_off21_eq k), ld_row _ (k1_off22_eq k), ld_row _ (k1_off23_eq k), ld_row _ (k1_off24_eq k), ld_row _ (k1_off25_eq k), ld_row _ (k1_off26_eq k), ld_row _ (k1_off27_eq k), ld_row _ (k1_off28_eq k), ld_row _ (k1_off29_eq k), ld_row _ (k1_off30_eq k), ld_row _ (k1_off31_eq k), ld_row _ (k1_off32_eq k), ld_row _ (k1_off33_eq k), ld_row _ (k1_off34_eq k), ld_row _ (k1_off35_eq k), ld_row _ (k1_off36_eq k), ld_row _ (k1_off37_eq k), ld_row _ (k1_off38_eq k), ld_row _ (k1_off39_eq k), ld_row _ (k1_off40_eq k), ld_row _ (k1_off41_eq k), ld_row _ (k1_off42_eq k), ld_row _ (k1_off43_eq k), ld_row _ (k1_off44_eq k), ld_row _ (k1_off45_eq k), ld_row _ (k1_off46_eq k), ld_row _ (k1_off47_eq k), ld_row _ (k1_off48_eq k)]
  refine congrArg₂ List.cons (tile_eq (k1_off54_eq k) _ _ _ _ rfl) <| congrArg₂ List.cons (tile_eq (k1_off53_eq k) _ _ _ _ rfl) <|
    congrArg₂ List.cons (tile_eq (k1_off52_eq k) _ _ _ _ rfl) <| congrArg₂ List.cons (tile_eq (k1_off51_eq k) _ _ _ _ rfl) <|
    congrArg₂ List.cons (tile_eq (k1_off50_eq k) _ _ _ _ rfl) <| congrArg₂ List.cons (tile_eq (k1_off49_eq k) _ _ _ _ rfl) rfl

/-- Every piece the first `n` trips of region 1's loop leave agrees with the block's function. -/
theorem pb1_agree (c : Dev nD) (i : grid1.Coords) (arg2 : Memref sig .tc .vmem S8x6x8x128 .i32) (harg2 : arg2.IsWhole)
    (arg3 : Memref sig .tc .hbm S40x48x8192 .f32) (harg3 : arg3.IsWhole) (arg4 : Memref sig .tc .vmem S1x48x1024 .f32) (harg4 : arg4.IsWhole) (x : Vec F S8x6x8x128 .i32) :
    ∀ n, n ≤ k1_t1_loop.trips → ∀ p ∈ pb_k1_t1 (F := F) .none c none i arg2 harg2 arg3 harg3 arg4 harg4 (harg2.unread x) n,
      ∀ j : p.1.shape.Idx, p.2 j = blkG x (p.1.emb j)
  | 0, _ => by intro p hp; exact absurd hp (by simp [pb_k1_t1])
  | n + 1, hn => by
    intro p hp
    rw [pb_k1_t1_succ (F := F) .none c none i arg2 harg2 arg3 harg3 arg4 harg4 (harg2.unread x) ⟨n, hn⟩] at hp
    rcases List.mem_append.mp hp with hp | hp
    · have hk : n < 8 := Nat.lt_of_lt_of_le hn k1_t1_abs.2.1
      rw [trip1 c i arg2 harg2 arg3 harg3 arg4 harg4 x ⟨n, hn⟩ hk] at hp
      exact pieces_agree x n hk p hp
    · exact pb1_agree c i arg2 harg2 arg3 harg3 arg4 harg4 x n (Nat.le_of_succ_le hn) p hp

/-- What region 1's body leaves in its output block. -/
theorem out1_eq (c : Dev nD) (i : grid1.Coords) (arg2 : Memref sig .tc .vmem S8x6x8x128 .i32) (harg2 : arg2.IsWhole)
    (arg4 : Memref sig .tc .vmem S1x48x1024 .f32) (harg4 : arg4.IsWhole) (x : Vec F S8x6x8x128 .i32) :
    out1_A_1 c i arg2 harg2 arg4 harg4 x = blkG x := by
  unfold out1_A_1
  rw [View.read_writes_junk_eq_canon]
  funext y
  refine View.canon_apply_of_pieces _ _ ?_ y (cover1_A_1 c i arg2 harg2 arg4 harg4 x y)
  unfold kernelRun1_A
  dsimp only
  sl_unfold_run_names
  exact pb1_agree c i arg2 harg2 _ _ arg4 harg4 x k1_t1_loop.trips le_rfl

/-- One trip of region 2's loop writes the six tiles of its block. -/
theorem trip2 (c : Dev nD) (i : grid2.Coords) (arg2 : Memref sig .tc .vmem S8x6x8x128 .i32) (harg2 : arg2.IsWhole)
    (arg3 : Memref sig .tc .hbm S40x48x8192 .f32) (harg3 : arg3.IsWhole) (arg4 : Memref sig .tc .vmem S1x48x1024 .f32) (harg4 : arg4.IsWhole) (x : Vec F S8x6x8x128 .i32) (k : Fin k2_t1_loop.trips) (hk : k.val < 8) :
    tripL_k2_t1 (F := F) .none c none i arg2 harg2 arg3 harg3 arg4 harg4 (harg2.unread x) k = pieces x k.val hk := by
  unfold tripL_k2_t1 trip_k2_t1
  dsimp only
  sl_unfold_run_names
  simp only [View.readAt_eq_ld, harg2.read_unread]
  simp only [ld_row _ (k2_off1_eq k), ld_row _ (k2_off2_eq k), ld_row _ (k2_off3_eq k), ld_row _ (k2_off4_eq k), ld_row _ (k2_off5_eq k), ld_row _ (k2_off6_eq k), ld_row _ (k2_off7_eq k), ld_row _ (k2_off8_eq k), ld_row _ (k2_off9_eq k), ld_row _ (k2_off10_eq k), ld_row _ (k2_off11_eq k), ld_row _ (k2_off12_eq k), ld_row _ (k2_off13_eq k), ld_row _ (k2_off14_eq k), ld_row _ (k2_off15_eq k), ld_row _ (k2_off16_eq k), ld_row _ (k2_off17_eq k), ld_row _ (k2_off18_eq k), ld_row _ (k2_off19_eq k), ld_row _ (k2_off20_eq k), ld_row _ (k2_off21_eq k), ld_row _ (k2_off22_eq k), ld_row _ (k2_off23_eq k), ld_row _ (k2_off24_eq k), ld_row _ (k2_off25_eq k), ld_row _ (k2_off26_eq k), ld_row _ (k2_off27_eq k), ld_row _ (k2_off28_eq k), ld_row _ (k2_off29_eq k), ld_row _ (k2_off30_eq k), ld_row _ (k2_off31_eq k), ld_row _ (k2_off32_eq k), ld_row _ (k2_off33_eq k), ld_row _ (k2_off34_eq k), ld_row _ (k2_off35_eq k), ld_row _ (k2_off36_eq k), ld_row _ (k2_off37_eq k), ld_row _ (k2_off38_eq k), ld_row _ (k2_off39_eq k), ld_row _ (k2_off40_eq k), ld_row _ (k2_off41_eq k), ld_row _ (k2_off42_eq k), ld_row _ (k2_off43_eq k), ld_row _ (k2_off44_eq k), ld_row _ (k2_off45_eq k), ld_row _ (k2_off46_eq k), ld_row _ (k2_off47_eq k), ld_row _ (k2_off48_eq k)]
  refine congrArg₂ List.cons (tile_eq (k2_off54_eq k) _ _ _ _ rfl) <| congrArg₂ List.cons (tile_eq (k2_off53_eq k) _ _ _ _ rfl) <|
    congrArg₂ List.cons (tile_eq (k2_off52_eq k) _ _ _ _ rfl) <| congrArg₂ List.cons (tile_eq (k2_off51_eq k) _ _ _ _ rfl) <|
    congrArg₂ List.cons (tile_eq (k2_off50_eq k) _ _ _ _ rfl) <| congrArg₂ List.cons (tile_eq (k2_off49_eq k) _ _ _ _ rfl) rfl

/-- Every piece the first `n` trips of region 2's loop leave agrees with the block's function. -/
theorem pb2_agree (c : Dev nD) (i : grid2.Coords) (arg2 : Memref sig .tc .vmem S8x6x8x128 .i32) (harg2 : arg2.IsWhole)
    (arg3 : Memref sig .tc .hbm S40x48x8192 .f32) (harg3 : arg3.IsWhole) (arg4 : Memref sig .tc .vmem S1x48x1024 .f32) (harg4 : arg4.IsWhole) (x : Vec F S8x6x8x128 .i32) :
    ∀ n, n ≤ k2_t1_loop.trips → ∀ p ∈ pb_k2_t1 (F := F) .none c none i arg2 harg2 arg3 harg3 arg4 harg4 (harg2.unread x) n,
      ∀ j : p.1.shape.Idx, p.2 j = blkG x (p.1.emb j)
  | 0, _ => by intro p hp; exact absurd hp (by simp [pb_k2_t1])
  | n + 1, hn => by
    intro p hp
    rw [pb_k2_t1_succ (F := F) .none c none i arg2 harg2 arg3 harg3 arg4 harg4 (harg2.unread x) ⟨n, hn⟩] at hp
    rcases List.mem_append.mp hp with hp | hp
    · have hk : n < 8 := Nat.lt_of_lt_of_le hn k2_t1_abs.2.1
      rw [trip2 c i arg2 harg2 arg3 harg3 arg4 harg4 x ⟨n, hn⟩ hk] at hp
      exact pieces_agree x n hk p hp
    · exact pb2_agree c i arg2 harg2 arg3 harg3 arg4 harg4 x n (Nat.le_of_succ_le hn) p hp

/-- What region 2's body leaves in its output block. -/
theorem out2_eq (c : Dev nD) (i : grid2.Coords) (arg2 : Memref sig .tc .vmem S8x6x8x128 .i32) (harg2 : arg2.IsWhole)
    (arg4 : Memref sig .tc .vmem S1x48x1024 .f32) (harg4 : arg4.IsWhole) (x : Vec F S8x6x8x128 .i32) :
    out2_A_1 c i arg2 harg2 arg4 harg4 x = blkG x := by
  unfold out2_A_1
  rw [View.read_writes_junk_eq_canon]
  funext y
  refine View.canon_apply_of_pieces _ _ ?_ y (cover2_A_1 c i arg2 harg2 arg4 harg4 x y)
  unfold kernelRun2_A
  dsimp only
  sl_unfold_run_names
  exact pb2_agree c i arg2 harg2 _ _ arg4 harg4 x k2_t1_loop.trips le_rfl

/-- One trip of region 3's loop writes the six tiles of its block. -/
theorem trip3 (c : Dev nD) (i : grid3.Coords) (arg2 : Memref sig .tc .vmem S8x6x8x128 .i32) (harg2 : arg2.IsWhole)
    (arg3 : Memref sig .tc .hbm S40x48x8192 .f32) (harg3 : arg3.IsWhole) (arg4 : Memref sig .tc .vmem S1x48x1024 .f32) (harg4 : arg4.IsWhole) (x : Vec F S8x6x8x128 .i32) (k : Fin k3_t1_loop.trips) (hk : k.val < 8) :
    tripL_k3_t1 (F := F) .none c none i arg2 harg2 arg3 harg3 arg4 harg4 (harg2.unread x) k = pieces x k.val hk := by
  unfold tripL_k3_t1 trip_k3_t1
  dsimp only
  sl_unfold_run_names
  simp only [View.readAt_eq_ld, harg2.read_unread]
  simp only [ld_row _ (k3_off1_eq k), ld_row _ (k3_off2_eq k), ld_row _ (k3_off3_eq k), ld_row _ (k3_off4_eq k), ld_row _ (k3_off5_eq k), ld_row _ (k3_off6_eq k), ld_row _ (k3_off7_eq k), ld_row _ (k3_off8_eq k), ld_row _ (k3_off9_eq k), ld_row _ (k3_off10_eq k), ld_row _ (k3_off11_eq k), ld_row _ (k3_off12_eq k), ld_row _ (k3_off13_eq k), ld_row _ (k3_off14_eq k), ld_row _ (k3_off15_eq k), ld_row _ (k3_off16_eq k), ld_row _ (k3_off17_eq k), ld_row _ (k3_off18_eq k), ld_row _ (k3_off19_eq k), ld_row _ (k3_off20_eq k), ld_row _ (k3_off21_eq k), ld_row _ (k3_off22_eq k), ld_row _ (k3_off23_eq k), ld_row _ (k3_off24_eq k), ld_row _ (k3_off25_eq k), ld_row _ (k3_off26_eq k), ld_row _ (k3_off27_eq k), ld_row _ (k3_off28_eq k), ld_row _ (k3_off29_eq k), ld_row _ (k3_off30_eq k), ld_row _ (k3_off31_eq k), ld_row _ (k3_off32_eq k), ld_row _ (k3_off33_eq k), ld_row _ (k3_off34_eq k), ld_row _ (k3_off35_eq k), ld_row _ (k3_off36_eq k), ld_row _ (k3_off37_eq k), ld_row _ (k3_off38_eq k), ld_row _ (k3_off39_eq k), ld_row _ (k3_off40_eq k), ld_row _ (k3_off41_eq k), ld_row _ (k3_off42_eq k), ld_row _ (k3_off43_eq k), ld_row _ (k3_off44_eq k), ld_row _ (k3_off45_eq k), ld_row _ (k3_off46_eq k), ld_row _ (k3_off47_eq k), ld_row _ (k3_off48_eq k)]
  refine congrArg₂ List.cons (tile_eq (k3_off54_eq k) _ _ _ _ rfl) <| congrArg₂ List.cons (tile_eq (k3_off53_eq k) _ _ _ _ rfl) <|
    congrArg₂ List.cons (tile_eq (k3_off52_eq k) _ _ _ _ rfl) <| congrArg₂ List.cons (tile_eq (k3_off51_eq k) _ _ _ _ rfl) <|
    congrArg₂ List.cons (tile_eq (k3_off50_eq k) _ _ _ _ rfl) <| congrArg₂ List.cons (tile_eq (k3_off49_eq k) _ _ _ _ rfl) rfl

/-- Every piece the first `n` trips of region 3's loop leave agrees with the block's function. -/
theorem pb3_agree (c : Dev nD) (i : grid3.Coords) (arg2 : Memref sig .tc .vmem S8x6x8x128 .i32) (harg2 : arg2.IsWhole)
    (arg3 : Memref sig .tc .hbm S40x48x8192 .f32) (harg3 : arg3.IsWhole) (arg4 : Memref sig .tc .vmem S1x48x1024 .f32) (harg4 : arg4.IsWhole) (x : Vec F S8x6x8x128 .i32) :
    ∀ n, n ≤ k3_t1_loop.trips → ∀ p ∈ pb_k3_t1 (F := F) .none c none i arg2 harg2 arg3 harg3 arg4 harg4 (harg2.unread x) n,
      ∀ j : p.1.shape.Idx, p.2 j = blkG x (p.1.emb j)
  | 0, _ => by intro p hp; exact absurd hp (by simp [pb_k3_t1])
  | n + 1, hn => by
    intro p hp
    rw [pb_k3_t1_succ (F := F) .none c none i arg2 harg2 arg3 harg3 arg4 harg4 (harg2.unread x) ⟨n, hn⟩] at hp
    rcases List.mem_append.mp hp with hp | hp
    · have hk : n < 8 := Nat.lt_of_lt_of_le hn k3_t1_abs.2.1
      rw [trip3 c i arg2 harg2 arg3 harg3 arg4 harg4 x ⟨n, hn⟩ hk] at hp
      exact pieces_agree x n hk p hp
    · exact pb3_agree c i arg2 harg2 arg3 harg3 arg4 harg4 x n (Nat.le_of_succ_le hn) p hp

/-- What region 3's body leaves in its output block. -/
theorem out3_eq (c : Dev nD) (i : grid3.Coords) (arg2 : Memref sig .tc .vmem S8x6x8x128 .i32) (harg2 : arg2.IsWhole)
    (arg4 : Memref sig .tc .vmem S1x48x1024 .f32) (harg4 : arg4.IsWhole) (x : Vec F S8x6x8x128 .i32) :
    out3_A_1 c i arg2 harg2 arg4 harg4 x = blkG x := by
  unfold out3_A_1
  rw [View.read_writes_junk_eq_canon]
  funext y
  refine View.canon_apply_of_pieces _ _ ?_ y (cover3_A_1 c i arg2 harg2 arg4 harg4 x y)
  unfold kernelRun3_A
  dsimp only
  sl_unfold_run_names
  exact pb3_agree c i arg2 harg2 _ _ arg4 harg4 x k3_t1_loop.trips le_rfl

/-- One trip of region 4's loop writes the six tiles of its block. -/
theorem trip4 (c : Dev nD) (i : grid4.Coords) (arg2 : Memref sig .tc .vmem S8x6x8x128 .i32) (harg2 : arg2.IsWhole)
    (arg3 : Memref sig .tc .hbm S40x48x8192 .f32) (harg3 : arg3.IsWhole) (arg4 : Memref sig .tc .vmem S1x48x1024 .f32) (harg4 : arg4.IsWhole) (x : Vec F S8x6x8x128 .i32) (k : Fin k4_t1_loop.trips) (hk : k.val < 8) :
    tripL_k4_t1 (F := F) .none c none i arg2 harg2 arg3 harg3 arg4 harg4 (harg2.unread x) k = pieces x k.val hk := by
  unfold tripL_k4_t1 trip_k4_t1
  dsimp only
  sl_unfold_run_names
  simp only [View.readAt_eq_ld, harg2.read_unread]
  simp only [ld_row _ (k4_off1_eq k), ld_row _ (k4_off2_eq k), ld_row _ (k4_off3_eq k), ld_row _ (k4_off4_eq k), ld_row _ (k4_off5_eq k), ld_row _ (k4_off6_eq k), ld_row _ (k4_off7_eq k), ld_row _ (k4_off8_eq k), ld_row _ (k4_off9_eq k), ld_row _ (k4_off10_eq k), ld_row _ (k4_off11_eq k), ld_row _ (k4_off12_eq k), ld_row _ (k4_off13_eq k), ld_row _ (k4_off14_eq k), ld_row _ (k4_off15_eq k), ld_row _ (k4_off16_eq k), ld_row _ (k4_off17_eq k), ld_row _ (k4_off18_eq k), ld_row _ (k4_off19_eq k), ld_row _ (k4_off20_eq k), ld_row _ (k4_off21_eq k), ld_row _ (k4_off22_eq k), ld_row _ (k4_off23_eq k), ld_row _ (k4_off24_eq k), ld_row _ (k4_off25_eq k), ld_row _ (k4_off26_eq k), ld_row _ (k4_off27_eq k), ld_row _ (k4_off28_eq k), ld_row _ (k4_off29_eq k), ld_row _ (k4_off30_eq k), ld_row _ (k4_off31_eq k), ld_row _ (k4_off32_eq k), ld_row _ (k4_off33_eq k), ld_row _ (k4_off34_eq k), ld_row _ (k4_off35_eq k), ld_row _ (k4_off36_eq k), ld_row _ (k4_off37_eq k), ld_row _ (k4_off38_eq k), ld_row _ (k4_off39_eq k), ld_row _ (k4_off40_eq k), ld_row _ (k4_off41_eq k), ld_row _ (k4_off42_eq k), ld_row _ (k4_off43_eq k), ld_row _ (k4_off44_eq k), ld_row _ (k4_off45_eq k), ld_row _ (k4_off46_eq k), ld_row _ (k4_off47_eq k), ld_row _ (k4_off48_eq k)]
  refine congrArg₂ List.cons (tile_eq (k4_off54_eq k) _ _ _ _ rfl) <| congrArg₂ List.cons (tile_eq (k4_off53_eq k) _ _ _ _ rfl) <|
    congrArg₂ List.cons (tile_eq (k4_off52_eq k) _ _ _ _ rfl) <| congrArg₂ List.cons (tile_eq (k4_off51_eq k) _ _ _ _ rfl) <|
    congrArg₂ List.cons (tile_eq (k4_off50_eq k) _ _ _ _ rfl) <| congrArg₂ List.cons (tile_eq (k4_off49_eq k) _ _ _ _ rfl) rfl

/-- Every piece the first `n` trips of region 4's loop leave agrees with the block's function. -/
theorem pb4_agree (c : Dev nD) (i : grid4.Coords) (arg2 : Memref sig .tc .vmem S8x6x8x128 .i32) (harg2 : arg2.IsWhole)
    (arg3 : Memref sig .tc .hbm S40x48x8192 .f32) (harg3 : arg3.IsWhole) (arg4 : Memref sig .tc .vmem S1x48x1024 .f32) (harg4 : arg4.IsWhole) (x : Vec F S8x6x8x128 .i32) :
    ∀ n, n ≤ k4_t1_loop.trips → ∀ p ∈ pb_k4_t1 (F := F) .none c none i arg2 harg2 arg3 harg3 arg4 harg4 (harg2.unread x) n,
      ∀ j : p.1.shape.Idx, p.2 j = blkG x (p.1.emb j)
  | 0, _ => by intro p hp; exact absurd hp (by simp [pb_k4_t1])
  | n + 1, hn => by
    intro p hp
    rw [pb_k4_t1_succ (F := F) .none c none i arg2 harg2 arg3 harg3 arg4 harg4 (harg2.unread x) ⟨n, hn⟩] at hp
    rcases List.mem_append.mp hp with hp | hp
    · have hk : n < 8 := Nat.lt_of_lt_of_le hn k4_t1_abs.2.1
      rw [trip4 c i arg2 harg2 arg3 harg3 arg4 harg4 x ⟨n, hn⟩ hk] at hp
      exact pieces_agree x n hk p hp
    · exact pb4_agree c i arg2 harg2 arg3 harg3 arg4 harg4 x n (Nat.le_of_succ_le hn) p hp

/-- What region 4's body leaves in its output block. -/
theorem out4_eq (c : Dev nD) (i : grid4.Coords) (arg2 : Memref sig .tc .vmem S8x6x8x128 .i32) (harg2 : arg2.IsWhole)
    (arg4 : Memref sig .tc .vmem S1x48x1024 .f32) (harg4 : arg4.IsWhole) (x : Vec F S8x6x8x128 .i32) :
    out4_A_1 c i arg2 harg2 arg4 harg4 x = blkG x := by
  unfold out4_A_1
  rw [View.read_writes_junk_eq_canon]
  funext y
  refine View.canon_apply_of_pieces _ _ ?_ y (cover4_A_1 c i arg2 harg2 arg4 harg4 x y)
  unfold kernelRun4_A
  dsimp only
  sl_unfold_run_names
  exact pb4_agree c i arg2 harg2 _ _ arg4 harg4 x k4_t1_loop.trips le_rfl

end
end Cert.KernelIdeal.Val
-- ==== Proof.Array.lean ====
module
public import proofs.«01_k».proof.Proof.Block
public import Idealize.ShloMosaic.Lib.Pipeline.ValueKit
public import Idealize.ShloMosaic.Lib.Pointwise
@[expose] public section
namespace Cert.KernelIdeal.Val
open Idealize.ShloMosaic Idealize.ShloMosaic.TcCoe Idealize.ShloMosaic.Tactic
open Idealize.SL Idealize.SL.RA Idealize.SL.BI
open Idealize.ShloMosaic.Pipeline (Dat Cfg Window BodyObligation cellOf)
open Cert.KernelIdeal Cert.KernelIdeal.Gen
set_option maxRecDepth 16384
noncomputable section
variable {F : FTy → Type} [FloatOps F]

/-- The block of a plane array that holds the bags of an output position. -/
def blkOf (i : S40x48x8192.Idx) : Fin 512 :=
  ⟨(i 0).val % 8 * 64 + (i 2).val / 128, by have := (i 2).isLt; simp at this; omega⟩

/-- The code word of an output channel. -/
def wordOf (i : S40x48x8192.Idx) : Fin 8 := ⟨(i 1).val / 8, by have := (i 1).isLt; simp at this; omega⟩

/-- The lane of an output position. -/
def laneOf (i : S40x48x8192.Idx) : Fin 128 := ⟨(i 2).val % 128, by omega⟩

/-- What a call computes at an output index from its plane array. -/
def regG (X : Vec F S512x6x8x128 .i32) : Vec F S40x48x8192 .f32 := fun i =>
  six fun kk => addend (X (ix4 (blkOf i) kk (6 : Fin 8) (laneOf i))) (X (ix4 (blkOf i) kk (7 : Fin 8) (laneOf i)))
    (X (ix4 (blkOf i) kk (wordOf i) (laneOf i))) ((i 1).val % 8)

/-- The block's function at an index whose coordinates are known. -/
theorem blkG_eq_regG (X : Vec F S512x6x8x128 .i32) (x : Vec F S8x6x8x128 .i32) (t p : ℕ)
    (hx : ∀ (b : Fin 8) (kk : Fin 6) (w : Fin 8) (l : Fin 128) (n : Fin 512), n.val = t * 8 + b.val → x (ix4 b kk w l) = X (ix4 n kk w l))
    (y : S1x48x1024.Idx) (i : S40x48x8192.Idx) (h0 : (i 0).val = p * 8 + t / 8) (h1 : (i 1).val = (y 1).val)
    (h2 : (i 2).val = t % 8 * 1024 + (y 2).val) (ht : t < 64) : blkG x y = regG X i := by
  have hy : (y 2).val < 1024 := (y 2).isLt
  have hb : ∀ h : (y 2).val / 128 < 8, (blkOf i).val = t * 8 + (⟨(y 2).val / 128, h⟩ : Fin 8).val := by
    intro h; show (i 0).val % 8 * 64 + (i 2).val / 128 = t * 8 + (y 2).val / 128; omega
  have hl : laneOf i = ⟨(y 2).val % 128, by omega⟩ := Fin.ext (by show (i 2).val % 128 = _; simp only []; omega)
  have hw : wordOf i = ⟨(y 1).val / 8, by have := (y 1).isLt; simp at this; omega⟩ := Fin.ext (by show (i 1).val / 8 = _; simp only []; omega)
  unfold blkG regG
  rw [hl, hw, h1]
  congr 1
  funext kk
  rw [hx _ kk 6 _ (blkOf i) (hb _), hx _ kk 7 _ (blkOf i) (hb _), hx _ kk _ _ (blkOf i) (hb _)]

/-- Where the windows of region 0 stand at each grid point. -/
theorem idx0 : ∀ t : Fin cfg0.N, win0_0.index t = ![t.val, 0, 0, 0] ∧ win0_1.index t = ![0 + t.val / 8, 0, t.val % 8] :=
  (by decide +kernel : ∀ t : Fin grid0.N, _)

/-- The staged input block of region 0 read from its plane array. -/
theorem iblk0_apply (V : (c : Dev nD) → (b : Ref sig .tc) → Buf (Elt F) ((c : Thread nD τ).loc b)) (c : Dev nD) (t : Fin cfg0.N)
    (b : Fin 8) (kk : Fin 6) (w : Fin 8) (l : Fin 128) (n : Fin 512) (hn : n.val = t.val * 8 + b.val) :
    iblk0 V c 0 t (ix4 b kk w l) = V c main_arg0 (ix4 n kk w l) := by
  blk_ext! [iblk0, idx0 t]

/-- The array region 0 leaves: its own eight batches computed, the others as they were. -/
theorem arr0 (V : (c : Dev nD) → (b : Ref sig .tc) → Buf (Elt F) ((c : Thread nD τ).loc b)) (c : Dev nD) :
    (dat0 V c).arrAt 1 cfg0.N = fun i : S40x48x8192.Idx => if 0 ≤ (i 0).val ∧ (i 0).val < 8 then regG (V c main_arg0) i else V c main_v0 i := by
  refine (dat0 V c).arrAt_eq_of_coversWhere 1 (regG (V c main_arg0)) (fun β => 0 ≤ β (0 : Fin 3) ∧ β (0 : Fin 3) < 8) (by decide +kernel)
    (fun t hf y => ?_) (fun j => ?_)
  · blk_simp
    rw [after0_1]
    unfold outsAt0
    rw [out0_eq]
    have ht : t.val < 64 := t.isLt
    refine blkG_eq_regG _ _ t.val 0 (iblk0_apply V c t) y _ ?_ ?_ ?_ ht
    · have h := Pipeline.Window.rect_emb_val win0_1 t y 0
      rw [(idx0 t).2] at h
      have h0 : (y 0).val < 1 := (y 0).isLt
      refine h.trans ?_
      simp <;> omega
    · have h := Pipeline.Window.rect_emb_val win0_1 t y 1
      rw [(idx0 t).2] at h
      refine h.trans ?_
      simp
    · have h := Pipeline.Window.rect_emb_val win0_1 t y 2
      rw [(idx0 t).2] at h
      refine h.trans ?_
      simp
  · have h : (cfg0.win 1).cell j 0 = (j 0).val := by
      rw [Pipeline.Window.cell_apply]; exact Nat.div_one _
    show _ ↔ 0 ≤ (cfg0.win 1).cell j 0 ∧ (cfg0.win 1).cell j 0 < 8
    rw [h]
    exact Iff.rfl

/-- Where the windows of region 1 stand at each grid point. -/
theorem idx1 : ∀ t : Fin cfg1.N, win1_0.index t = ![t.val, 0, 0, 0] ∧ win1_1.index t = ![8 + t.val / 8, 0, t.val % 8] :=
  (by decide +kernel : ∀ t : Fin grid1.N, _)

/-- The staged input block of region 1 read from its plane array. -/
theorem iblk1_apply (V : (c : Dev nD) → (b : Ref sig .tc) → Buf (Elt F) ((c : Thread nD τ).loc b)) (c : Dev nD) (t : Fin cfg1.N)
    (b : Fin 8) (kk : Fin 6) (w : Fin 8) (l : Fin 128) (n : Fin 512) (hn : n.val = t.val * 8 + b.val) :
    iblk1 V c 0 t (ix4 b kk w l) = V c main_arg1 (ix4 n kk w l) := by
  blk_ext! [iblk1, idx1 t]

/-- The array region 1 leaves: its own eight batches computed, the others as they were. -/
theorem arr1 (V : (c : Dev nD) → (b : Ref sig .tc) → Buf (Elt F) ((c : Thread nD τ).loc b)) (c : Dev nD) :
    (dat1 V c).arrAt 1 cfg1.N = fun i : S40x48x8192.Idx => if 8 ≤ (i 0).val ∧ (i 0).val < 16 then regG (V c main_arg1) i else V c main_v1 i := by
  refine (dat1 V c).arrAt_eq_of_coversWhere 1 (regG (V c main_arg1)) (fun β => 8 ≤ β (0 : Fin 3) ∧ β (0 : Fin 3) < 16) (by decide +kernel)
    (fun t hf y => ?_) (fun j => ?_)
  · blk_simp
    rw [after1_1]
    unfold outsAt1
    rw [out1_eq]
    have ht : t.val < 64 := t.isLt
    refine blkG_eq_regG _ _ t.val 1 (iblk1_apply V c t) y _ ?_ ?_ ?_ ht
    · have h := Pipeline.Window.rect_emb_val win1_1 t y 0
      rw [(idx1 t).2] at h
      have h0 : (y 0).val < 1 := (y 0).isLt
      refine h.trans ?_
      simp <;> omega
    · have h := Pipeline.Window.rect_emb_val win1_1 t y 1
      rw [(idx1 t).2] at h
      refine h.trans ?_
      simp
    · have h := Pipeline.Window.rect_emb_val win1_1 t y 2
      rw [(idx1 t).2] at h
      refine h.trans ?_
      simp
  · have h : (cfg1.win 1).cell j 0 = (j 0).val := by
      rw [Pipeline.Window.cell_apply]; exact Nat.div_one _
    show _ ↔ 8 ≤ (cfg1.win 1).cell j 0 ∧ (cfg1.win 1).cell j 0 < 16
    rw [h]
    exact Iff.rfl

/-- Where the windows of region 2 stand at each grid point. -/
theorem idx2 : ∀ t : Fin cfg2.N, win2_0.index t = ![t.val, 0, 0, 0] ∧ win2_1.index t = ![16 + t.val / 8, 0, t.val % 8] :=
  (by decide +kernel : ∀ t : Fin grid2.N, _)

/-- The staged input block of region 2 read from its plane array. -/
theorem iblk2_apply (V : (c : Dev nD) → (b : Ref sig .tc) → Buf (Elt F) ((c : Thread nD τ).loc b)) (c : Dev nD) (t : Fin cfg2.N)
    (b : Fin 8) (kk : Fin 6) (w : Fin 8) (l : Fin 128) (n : Fin 512) (hn : n.val = t.val * 8 + b.val) :
    iblk2 V c 0 t (ix4 b kk w l) = V c main_arg2 (ix4 n kk w l) := by
  blk_ext! [iblk2, idx2 t]

/-- The array region 2 leaves: its own eight batches computed, the others as they were. -/
theorem arr2 (V : (c : Dev nD) → (b : Ref sig .tc) → Buf (Elt F) ((c : Thread nD τ).loc b)) (c : Dev nD) :
    (dat2 V c).arrAt 1 cfg2.N = fun i : S40x48x8192.Idx => if 16 ≤ (i 0).val ∧ (i 0).val < 24 then regG (V c main_arg2) i else V c main_v2 i := by
  refine (dat2 V c).arrAt_eq_of_coversWhere 1 (regG (V c main_arg2)) (fun β => 16 ≤ β (0 : Fin 3) ∧ β (0 : Fin 3) < 24) (by decide +kernel)
    (fun t hf y => ?_) (fun j => ?_)
  · blk_simp
    rw [after2_1]
    unfold outsAt2
    rw [out2_eq]
    have ht : t.val < 64 := t.isLt
    refine blkG_eq_regG _ _ t.val 2 (iblk2_apply V c t) y _ ?_ ?_ ?_ ht
    · have h := Pipeline.Window.rect_emb_val win2_1 t y 0
      rw [(idx2 t).2] at h
      have h0 : (y 0).val < 1 := (y 0).isLt
      refine h.trans ?_
      simp <;> omega
    · have h := Pipeline.Window.rect_emb_val win2_1 t y 1
      rw [(idx2 t).2] at h
      refine h.trans ?_
      simp
    · have h := Pipeline.Window.rect_emb_val win2_1 t y 2
      rw [(idx2 t).2] at h
      refine h.trans ?_
      simp
  · have h : (cfg2.win 1).cell j 0 = (j 0).val := by
      rw [Pipeline.Window.cell_apply]; exact Nat.div_one _
    show _ ↔ 16 ≤ (cfg2.win 1).cell j 0 ∧ (cfg2.win 1).cell j 0 < 24
    rw [h]
    exact Iff.rfl

/-- Where the windows of region 3 stand at each grid point. -/
theorem idx3 : ∀ t : Fin cfg3.N, win3_0.index t = ![t.val, 0, 0, 0] ∧ win3_1.index t = ![24 + t.val / 8, 0, t.val % 8] :=
  (by decide +kernel : ∀ t : Fin grid3.N, _)

/-- The staged input block of region 3 read from its plane array. -/
theorem iblk3_apply (V : (c : Dev nD) → (b : Ref sig .tc) → Buf (Elt F) ((c : Thread nD τ).loc b)) (c : Dev nD) (t : Fin cfg3.N)
    (b : Fin 8) (kk : Fin 6) (w : Fin 8) (l : Fin 128) (n : Fin 512) (hn : n.val = t.val * 8 + b.val) :
    iblk3 V c 0 t (ix4 b kk w l) = V c main_arg3 (ix4 n kk w l) := by
  blk_ext! [iblk3, idx3 t]

/-- The array region 3 leaves: its own eight batches computed, the others as they were. -/
theorem arr3 (V : (c : Dev nD) → (b : Ref sig .tc) → Buf (Elt F) ((c : Thread nD τ).loc b)) (c : Dev nD) :
    (dat3 V c).arrAt 1 cfg3.N = fun i : S40x48x8192.Idx => if 24 ≤ (i 0).val ∧ (i 0).val < 32 then regG (V c main_arg3) i else V c main_v3 i := by
  refine (dat3 V c).arrAt_eq_of_coversWhere 1 (regG (V c main_arg3)) (fun β => 24 ≤ β (0 : Fin 3) ∧ β (0 : Fin 3) < 32) (by decide +kernel)
    (fun t hf y => ?_) (fun j => ?_)
  · blk_simp
    rw [after3_1]
    unfold outsAt3
    rw [out3_eq]
    have ht : t.val < 64 := t.isLt
    refine blkG_eq_regG _ _ t.val 3 (iblk3_apply V c t) y _ ?_ ?_ ?_ ht
    · have h := Pipeline.Window.rect_emb_val win3_1 t y 0
      rw [(idx3 t).2] at h
      have h0 : (y 0).val < 1 := (y 0).isLt
      refine h.trans ?_
      simp <;> omega
    · have h := Pipeline.Window.rect_emb_val win3_1 t y 1
      rw [(idx3 t).2] at h
      refine h.trans ?_
      simp
    · have h := Pipeline.Window.rect_emb_val win3_1 t y 2
      rw [(idx3 t).2] at h
      refine h.trans ?_
      simp
  · have h : (cfg3.win 1).cell j 0 = (j 0).val := by
      rw [Pipeline.Window.cell_apply]; exact Nat.div_one _
    show _ ↔ 24 ≤ (cfg3.win 1).cell j 0 ∧ (cfg3.win 1).cell j 0 < 32
    rw [h]
    exact Iff.rfl

/-- Where the windows of region 4 stand at each grid point. -/
theorem idx4 : ∀ t : Fin cfg4.N, win4_0.index t = ![t.val, 0, 0, 0] ∧ win4_1.index t = ![32 + t.val / 8, 0, t.val % 8] :=
  (by decide +kernel : ∀ t : Fin grid4.N, _)

/-- The staged input block of region 4 read from its plane array. -/
theorem iblk4_apply (V : (c : Dev nD) → (b : Ref sig .tc) → Buf (Elt F) ((c : Thread nD τ).loc b)) (c : Dev nD) (t : Fin cfg4.N)
    (b : Fin 8) (kk : Fin 6) (w : Fin 8) (l : Fin 128) (n : Fin 512) (hn : n.val = t.val * 8 + b.val) :
    iblk4 V c 0 t (ix4 b kk w l) = V c main_arg4 (ix4 n kk w l) := by
  blk_ext! [iblk4, idx4 t]

/-- The array region 4 leaves: its own eight batches computed, the others as they were. -/
theorem arr4 (V : (c : Dev nD) → (b : Ref sig .tc) → Buf (Elt F) ((c : Thread nD τ).loc b)) (c : Dev nD) :
    (dat4 V c).arrAt 1 cfg4.N = fun i : S40x48x8192.Idx => if 32 ≤ (i 0).val ∧ (i 0).val < 40 then regG (V c main_arg4) i else V c main_v4 i := by
  refine (dat4 V c).arrAt_eq_of_coversWhere 1 (regG (V c main_arg4)) (fun β => 32 ≤ β (0 : Fin 3) ∧ β (0 : Fin 3) < 40) (by decide +kernel)
    (fun t hf y => ?_) (fun j => ?_)
  · blk_simp
    rw [after4_1]
    unfold outsAt4
    rw [out4_eq]
    have ht : t.val < 64 := t.isLt
    refine blkG_eq_regG _ _ t.val 4 (iblk4_apply V c t) y _ ?_ ?_ ?_ ht
    · have h := Pipeline.Window.rect_emb_val win4_1 t y 0
      rw [(idx4 t).2] at h
      have h0 : (y 0).val < 1 := (y 0).isLt
      refine h.trans ?_
      simp <;> omega
    · have h := Pipeline.Window.rect_emb_val win4_1 t y 1
      rw [(idx4 t).2] at h
      refine h.trans ?_
      simp
    · have h := Pipeline.Window.rect_emb_val win4_1 t y 2
      rw [(idx4 t).2] at h
      refine h.trans ?_
      simp
  · have h : (cfg4.win 1).cell j 0 = (j 0).val := by
      rw [Pipeline.Window.cell_apply]; exact Nat.div_one _
    show _ ↔ 32 ≤ (cfg4.win 1).cell j 0 ∧ (cfg4.win 1).cell j 0 < 40
    rw [h]
    exact Iff.rfl

variable (m : (ℓ : Loc nD τ sig) → Buf (Elt F) ℓ) (ρ : Dev nD → PrngReg)

/-- What region 0 leaves in its output array, by the boundaries' contents. -/
theorem reg0_out (c : Dev nD) : W1 m ρ c (Proc.devRef .tc main_v0) = fun i : S40x48x8192.Idx =>
    if 0 ≤ (i 0).val ∧ (i 0).val < 8 then regG (F := F) (m ((c : Thread nD τ).loc main_arg0)) i else W0 m ρ c (Proc.devRef .tc main_v0) i := by
  have h := (W1_arr m ρ c 1).trans (arr0 (V0 m ρ) c)
  refine h.trans ?_
  rw [show V0 m ρ c main_arg0 = m ((c : Thread nD τ).loc main_arg0) from W0_args m ρ c main_arg0 (by decide)]

/-- What region 1 leaves in its output array, by the boundaries' contents. -/
theorem reg1_out (c : Dev nD) : W3 m ρ c (Proc.devRef .tc main_v1) = fun i : S40x48x8192.Idx =>
    if 8 ≤ (i 0).val ∧ (i 0).val < 16 then regG (F := F) (m ((c : Thread nD τ).loc main_arg1)) i else W2 m ρ c (Proc.devRef .tc main_v1) i := by
  have h := (W3_arr m ρ c 1).trans (arr1 (V2 m ρ) c)
  refine h.trans ?_
  rw [show V2 m ρ c main_arg1 = m ((c : Thread nD τ).loc main_arg1) from W2_args m ρ c main_arg1 (by decide)]

/-- The next call's output array starts as the previous call's result. -/
theorem copy1 (c : Dev nD) : W2 m ρ c (Proc.devRef .tc main_v1) = W1 m ρ c (Proc.devRef .tc main_v0) := by
  after_results
  rfl

/-- What region 2 leaves in its output array, by the boundaries' contents. -/
theorem reg2_out (c : Dev nD) : W5 m ρ c (Proc.devRef .tc main_v2) = fun i : S40x48x8192.Idx =>
    if 16 ≤ (i 0).val ∧ (i 0).val < 24 then regG (F := F) (m ((c : Thread nD τ).loc main_arg2)) i else W4 m ρ c (Proc.devRef .tc main_v2) i := by
  have h := (W5_arr m ρ c 1).trans (arr2 (V4 m ρ) c)
  refine h.trans ?_
  rw [show V4 m ρ c main_arg2 = m ((c : Thread nD τ).loc main_arg2) from W4_args m ρ c main_arg2 (by decide)]

/-- The next call's output array starts as the previous call's result. -/
theorem copy2 (c : Dev nD) : W4 m ρ c (Proc.devRef .tc main_v2) = W3 m ρ c (Proc.devRef .tc main_v1) := by
  after_results
  rfl

/-- What region 3 leaves in its output array, by the boundaries' contents. -/
theorem reg3_out (c : Dev nD) : W7 m ρ c (Proc.devRef .tc main_v3) = fun i : S40x48x8192.Idx =>
    if 24 ≤ (i 0).val ∧ (i 0).val < 32 then regG (F := F) (m ((c : Thread nD τ).loc main_arg3)) i else W6 m ρ c (Proc.devRef .tc main_v3) i := by
  have h := (W7_arr m ρ c 1).trans (arr3 (V6 m ρ) c)
  refine h.trans ?_
  rw [show V6 m ρ c main_arg3 = m ((c : Thread nD τ).loc main_arg3) from W6_args m ρ c main_arg3 (by decide)]

/-- The next call's output array starts as the previous call's result. -/
theorem copy3 (c : Dev nD) : W6 m ρ c (Proc.devRef .tc main_v3) = W5 m ρ c (Proc.devRef .tc main_v2) := by
  after_results
  rfl

/-- What region 4 leaves in its output array, by the boundaries' contents. -/
theorem reg4_out (c : Dev nD) : W9 m ρ c (Proc.devRef .tc main_v4) = fun i : S40x48x8192.Idx =>
    if 32 ≤ (i 0).val ∧ (i 0).val < 40 then regG (F := F) (m ((c : Thread nD τ).loc main_arg4)) i else W8 m ρ c (Proc.devRef .tc main_v4) i := by
  have h := (W9_arr m ρ c 1).trans (arr4 (V8 m ρ) c)
  refine h.trans ?_
  rw [show V8 m ρ c main_arg4 = m ((c : Thread nD τ).loc main_arg4) from W8_args m ρ c main_arg4 (by decide)]

/-- The next call's output array starts as the previous call's result. -/
theorem copy4 (c : Dev nD) : W8 m ρ c (Proc.devRef .tc main_v4) = W7 m ρ c (Proc.devRef .tc main_v3) := by
  after_results
  rfl

/-- What the five calls together leave, at an output index: the call that owns the batch computes it from its planes. -/
def outG (X0 X1 X2 X3 X4 : Vec F S512x6x8x128 .i32) : Vec F S40x48x8192 .f32 := fun i =>
  if (i 0).val < 8 then regG X0 i else if (i 0).val < 16 then regG X1 i else if (i 0).val < 24 then regG X2 i
  else if (i 0).val < 32 then regG X3 i else regG X4 i

/-- The result array of the chained calls. -/
theorem final (c : Dev nD) : W9 m ρ c (Proc.devRef .tc main_v4) = outG (F := F) (m ((c : Thread nD τ).loc main_arg0)) (m ((c : Thread nD τ).loc main_arg1))
    (m ((c : Thread nD τ).loc main_arg2)) (m ((c : Thread nD τ).loc main_arg3)) (m ((c : Thread nD τ).loc main_arg4)) := by
  rw [reg4_out, copy4, reg3_out, copy3, reg2_out, copy2, reg1_out, copy1, reg0_out]
  funext i
  have hi : (i 0).val < 40 := (i 0).isLt
  unfold outG
  dsimp only
  by_cases h0 : (i 0).val < 8
  · rw [if_neg (by omega), if_neg (by omega), if_neg (by omega), if_neg (by omega), if_pos (by omega), if_pos h0]
  by_cases h1 : (i 0).val < 16
  · rw [if_neg (by omega), if_neg (by omega), if_neg (by omega), if_pos (by omega), if_neg h0, if_pos h1]
  by_cases h2 : (i 0).val < 24
  · rw [if_neg (by omega), if_neg (by omega), if_pos (by omega), if_neg h0, if_neg h1, if_pos h2]
  by_cases h3 : (i 0).val < 32
  · rw [if_neg (by omega), if_pos (by omega), if_neg h0, if_neg h1, if_neg h2, if_pos h3]
  · rw [if_pos (by omega), if_neg h0, if_neg h1, if_neg h2, if_neg h3]

end
end Cert.KernelIdeal.Val
-- ==== Proof.RunValue.lean ====
module
public import proofs.«01_k».proof.Proof.Array
@[expose] public section
set_option maxRecDepth 16384
noncomputable section
namespace Cert.KernelIdeal.Val
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- The kernel's result at an index: the bag sums, channels last. -/
def resG (X0 X1 X2 X3 X4 : Vec F S512x6x8x128 .i32) : Vec F S40x8192x48 .f32 := fun i =>
  outG X0 X1 X2 X3 X4 (ix3 (i 0) (i 2) (i 1))

/-- The trailing transpose moves the channel axis of the calls' result last. -/
theorem final_t (c : Dev nD) : W10 m ρ c (Proc.devRef .tc main_v5) = resG (F := F) (m ((c : Thread nD τ).loc main_arg0)) (m ((c : Thread nD τ).loc main_arg1))
    (m ((c : Thread nD τ).loc main_arg2)) (m ((c : Thread nD τ).loc main_arg3)) (m ((c : Thread nD τ).loc main_arg4)) := by
  after_results
  rw [final]
  funext i
  refine transpose_apply [0, 2, 1] _ _ i (ix3 (i 0) (i 2) (i 1)) (fun b => match b with
    | ⟨0, _⟩ => rfl
    | ⟨1, _⟩ => rfl
    | ⟨2, _⟩ => rfl)

set_option backward.isDefEq.respectTransparency.types false in
/-- Every fair run of the kernel ends with the result array at the bag sums of its planes and the planes unchanged. -/
theorem run_value : θ_run defs (onTc (τ := τ) (main (F := F))) ⟨m, fun _ => 0, ρ⟩ (fun r => ∀ c : Dev nD,
      r.2.mem ((c.tc : Thread nD τ).loc main_v5) = resG (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => fun c =>
      ⟨(h c _ (mem_uc main_v5 (by decide))).trans (final_t m ρ c),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c)⟩)

end Cert.KernelIdeal.Val

end
-- ==== Proof.RefValue.lean ====
module
public import proofs.«01_k».proof.Defs
public import proofs.«01_k».proof.Proof.RunValue
public import proofs.«01_k».proof.Proof.Gen.ReferenceIdeal.Run
public import proofs.«01_k».proof.Proof.Gen.ReferenceIdeal.Read
public import Idealize.ShloMosaic.Lib.Claim
public import Idealize.ShloMosaic.Lib.Pointwise
@[expose] public section
set_option maxRecDepth 16384
noncomputable section
namespace Cert.RefValue
open Idealize.ShloMosaic Idealize.ShloMosaic.TcCoe Idealize.SL.Sem
open Cert.ReferenceIdeal Cert.ReferenceIdeal.Read
open Cert.KernelIdeal.Val (nib nib_eq addend six regG outG resG blkOf wordOf laneOf)

variable {F : FTy → Type} [FloatOps F]

/-- The plane array that holds a block of the reference's concatenation. -/
def pick (X0 X1 X2 X3 X4 : Vec F S512x6x8x128 .i32) : Fin 5 → Vec F S512x6x8x128 .i32 := ![X0, X1, X2, X3, X4]

/-- The concatenation at a block is the plane array of the block's call. -/
theorem v0_at (X0 X1 X2 X3 X4 : Vec F S512x6x8x128 .i32) (n : Fin 2560) (kk : Fin 6) (w : Fin 8) (l : Fin 128) (q : Fin 5) (p : Fin 512)
    (hq : n.val = q.val * 512 + p.val) :
    val_main_v0 (F := F) X0 X1 X2 X3 X4 (ix4 n kk w l) = pick X0 X1 X2 X3 X4 q (ix4 p kk w l) := by
  unfold val_main_v0
  have h := concatenate_ofFn_apply (t := S2560x6x8x128) (s₁ := S512x6x8x128) 0 (pick (F := F) X0 X1 X2 X3 X4)
    Cert.ReferenceIdeal.Facts₀.concatenates_S512x6x8x128_S512x6x8x128_S512x6x8x128_S512x6x8x128_S512x6x8x128_S2560x6x8x128_d0
    rfl 512 rfl (ix4 n kk w l) q (by show n.val / 512 = q.val; omega) (ix4 p kk w l) (by show p.val = n.val % 512; omega)
    (fun b hb => match b with
      | ⟨0, _⟩ => absurd rfl hb
      | ⟨1, _⟩ => rfl
      | ⟨2, _⟩ => rfl
      | ⟨3, _⟩ => rfl)
  exact h

/-- The host's shift by four times a code's place in its word, and the mask, cut out that code. -/
theorem host_nib (c : BitVec 32) (i : ℕ) (hi : i < 8) :
    IntOp.andi (IntOp.shrui .host c (IntOp.muli 4#32 (BitVec.ofNat 32 i))) 15#32 = nib c i := by
  have h : (IntOp.muli 4#32 (BitVec.ofNat 32 i)).toNat = 4 * i := by
    unfold IntOp.muli; rw [BitVec.toNat_mul]; simp; omega
  unfold nib IntOp.andi IntOp.shrui
  rw [if_pos (by omega), BitVec.ushiftRight_eq', h]

/-- The reference's addend at a block, position, word, code and bag. -/
theorem v24_at (X0 X1 X2 X3 X4 : Vec F S512x6x8x128 .i32) (n : Fin 2560) (kk : Fin 6) (w : Fin 6) (e : Fin 8) (l : Fin 128) :
    val_main_v24 (F := F) X0 X1 X2 X3 X4 (ix5 n kk w e l)
      = addend (val_main_v0 (F := F) X0 X1 X2 X3 X4 (ix4 n kk (6 : Fin 8) l)) (val_main_v0 (F := F) X0 X1 X2 X3 X4 (ix4 n kk (7 : Fin 8) l))
        (val_main_v0 (F := F) X0 X1 X2 X3 X4 (ix4 n kk (⟨w.val, by omega⟩ : Fin 8) l)) e.val := by
  have hn := n.isLt
  have hk := kk.isLt
  have hl := l.isLt
  unfold addend
  rw [← host_nib _ _ e.isLt]
  rw [val_main_v24_apply, val_main_v22_apply, val_main_v20_apply, val_main_v19_apply, val_main_v17_apply, val_main_v18_apply,
    val_main_c_0_apply, val_main_v16_apply, val_main_v15_apply, val_main_v14_apply, val_main_c_apply, val_main_v13_apply,
    val_main_v12_apply, val_main_v11_apply, val_main_v10_apply, val_main_v9_apply, val_main_v21_apply, val_main_v4_apply,
    val_main_v3_apply, val_main_v2_apply, val_main_v1_apply, val_main_v23_apply, val_main_v8_apply, val_main_v7_apply,
    val_main_v6_apply, val_main_v5_apply]
  have e9 : idx_main_v9 (idx_main_v10 (idx_main_v11 (ix5 n kk w e l))) = ix4 n kk (⟨w.val, by omega⟩ : Fin 8) l :=
    funext fun a => match a with | ⟨0, _⟩ => rfl | ⟨1, _⟩ => rfl | ⟨2, _⟩ => rfl | ⟨3, _⟩ => rfl
  have e1 : idx_main_v1 (idx_main_v2 (idx_main_v4 (idx_main_v21 (ix5 n kk w e l)))) = ix4 n kk (6 : Fin 8) l :=
    funext fun a => match a with
      | ⟨0, _⟩ => Fin.ext (by show ((n.val * 6 + kk.val) * 128 + l.val) / 768 = n.val; omega)
      | ⟨1, _⟩ => Fin.ext (by show ((n.val * 6 + kk.val) * 128 + l.val) / 128 % 6 = kk.val; omega)
      | ⟨2, _⟩ => rfl
      | ⟨3, _⟩ => Fin.ext (by show ((n.val * 6 + kk.val) * 128 + l.val) % 128 = l.val; omega)
  have e5 : idx_main_v5 (idx_main_v6 (idx_main_v8 (idx_main_v23 (ix5 n kk w e l)))) = ix4 n kk (7 : Fin 8) l :=
    funext fun a => match a with
      | ⟨0, _⟩ => Fin.ext (by show ((n.val * 6 + kk.val) * 128 + l.val) / 768 = n.val; omega)
      | ⟨1, _⟩ => Fin.ext (by show ((n.val * 6 + kk.val) * 128 + l.val) / 128 % 6 = kk.val; omega)
      | ⟨2, _⟩ => rfl
      | ⟨3, _⟩ => Fin.ext (by show ((n.val * 6 + kk.val) * 128 + l.val) % 128 = l.val; omega)
  rw [e9, e1, e5]
  rfl

/-- Over the reals the reference's sum over the positions is the six addends in order. -/
theorem v25_at (X0 X1 X2 X3 X4 : Vec Ideal S512x6x8x128 .i32) (n : Fin 2560) (w : Fin 6) (e : Fin 8) (l : Fin 128) :
    val_main_v25 (F := Ideal) X0 X1 X2 X3 X4 (ix4 n w e l) = six (F := Ideal) fun kk => val_main_v24 (F := Ideal) X0 X1 X2 X3 X4 (ix5 n kk w e l) := by
  rw [val_main_v25_apply, val_main_cst_apply, Fin.sum_univ_six]
  have hi : ∀ kk : Fin 6, idx_main_v25 (ix4 n w e l) kk = ix5 n kk w e l := fun kk =>
    funext fun a => match a with | ⟨0, _⟩ => rfl | ⟨1, _⟩ => rfl | ⟨2, _⟩ => rfl | ⟨3, _⟩ => rfl | ⟨4, _⟩ => rfl
  rw [hi, hi, hi, hi, hi, hi]
  unfold six
  simp only [Ideal.addf_def, add_assoc]

/-- The four coordinates of a flat (block, channel, bag) position split as (block, word, code, bag). -/
theorem row_split (A d r : ℕ) (hd : d < 48) (hr : r < 128) :
    ((A * 48 + d) * 128 + r) / 6144 = A ∧ ((A * 48 + d) * 128 + r) / 1024 % 6 = d / 8
      ∧ ((A * 48 + d) * 128 + r) / 128 % 8 = d % 8 ∧ ((A * 48 + d) * 128 + r) % 128 = r := by
  have h1 : ((A * 48 + d) * 128 + r) / 128 = A * 48 + d := by omega
  have h2 : ((A * 48 + d) * 128 + r) / 1024 = A * 6 + d / 8 := by
    rw [show 1024 = 128 * 8 from rfl, ← Nat.div_div_eq_div_mul, h1]; omega
  refine ⟨by omega, ?_, ?_, by omega⟩
  · rw [h2]; omega
  · rw [h1]; omega

/-- The reference's result at an index is the kernel's. -/
theorem ref_eq (X0 X1 X2 X3 X4 : Vec Ideal S512x6x8x128 .i32) :
    val_main_v28 (F := Ideal) X0 X1 X2 X3 X4 = resG (F := Ideal) X0 X1 X2 X3 X4 := by
  funext i
  obtain ⟨b, s, d, rfl⟩ : ∃ (b : Fin 40) (s : Fin 8192) (d : Fin 48), i = ix3 b s d :=
    ⟨i 0, i 1, i 2, funext fun a => match a with | ⟨0, _⟩ => rfl | ⟨1, _⟩ => rfl | ⟨2, _⟩ => rfl⟩
  have hb := b.isLt
  have hs := s.isLt
  have hd := d.isLt
  rw [val_main_v28_apply, val_main_v27_apply, val_main_v26_apply]
  have hi : idx_main_v26 (idx_main_v27 (idx_main_v28 (ix3 b s d)))
      = ix4 (⟨b.val * 64 + s.val / 128, by omega⟩ : Fin 2560) (⟨d.val / 8, by omega⟩ : Fin 6) (⟨d.val % 8, by omega⟩ : Fin 8)
          (⟨s.val % 128, by omega⟩ : Fin 128) := by
    have hA : ((b.val * 8192 + s.val) * 48 + d.val) / 6144 = b.val * 64 + s.val / 128 := by omega
    have hB : ((b.val * 8192 + s.val) * 48 + d.val) / 48 % 128 = s.val % 128 := by omega
    have hC : ((b.val * 8192 + s.val) * 48 + d.val) % 48 = d.val := by omega
    refine funext fun a => match a with
      | ⟨0, _⟩ => Fin.ext ?_
      | ⟨1, _⟩ => Fin.ext ?_
      | ⟨2, _⟩ => Fin.ext ?_
      | ⟨3, _⟩ => Fin.ext ?_
    · show ((((b.val * 8192 + s.val) * 48 + d.val) / 6144 * 48 + ((b.val * 8192 + s.val) * 48 + d.val) % 48) * 128
        + ((b.val * 8192 + s.val) * 48 + d.val) / 48 % 128) / 6144 = b.val * 64 + s.val / 128
      rw [hA, hB, hC]; exact (row_split _ d.val _ hd (Nat.mod_lt _ (by norm_num))).1
    · show ((((b.val * 8192 + s.val) * 48 + d.val) / 6144 * 48 + ((b.val * 8192 + s.val) * 48 + d.val) % 48) * 128
        + ((b.val * 8192 + s.val) * 48 + d.val) / 48 % 128) / 1024 % 6 = d.val / 8
      rw [hA, hB, hC]; exact (row_split _ d.val _ hd (Nat.mod_lt _ (by norm_num))).2.1
    · show ((((b.val * 8192 + s.val) * 48 + d.val) / 6144 * 48 + ((b.val * 8192 + s.val) * 48 + d.val) % 48) * 128
        + ((b.val * 8192 + s.val) * 48 + d.val) / 48 % 128) / 128 % 8 = d.val % 8
      rw [hA, hB, hC]; exact (row_split _ d.val _ hd (Nat.mod_lt _ (by norm_num))).2.2.1
    · show ((((b.val * 8192 + s.val) * 48 + d.val) / 6144 * 48 + ((b.val * 8192 + s.val) * 48 + d.val) % 48) * 128
        + ((b.val * 8192 + s.val) * 48 + d.val) / 48 % 128) % 128 = s.val % 128
      rw [hA, hB, hC]; exact (row_split _ d.val _ hd (Nat.mod_lt _ (by norm_num))).2.2.2
  rw [hi, v25_at]
  have key : ∀ q : Fin 5, b.val / 8 = q.val →
      (six (F := Ideal) fun kk => val_main_v24 (F := Ideal) X0 X1 X2 X3 X4 (ix5 (⟨b.val * 64 + s.val / 128, by omega⟩ : Fin 2560) kk
        (⟨d.val / 8, by omega⟩ : Fin 6) (⟨d.val % 8, by omega⟩ : Fin 8) (⟨s.val % 128, by omega⟩ : Fin 128)))
      = regG (pick X0 X1 X2 X3 X4 q) (ix3 b d s) := by
    intro q hq
    unfold regG
    congr 1
    funext kk
    have hv : ∀ w : Fin 8, val_main_v0 (F := Ideal) X0 X1 X2 X3 X4 (ix4 (⟨b.val * 64 + s.val / 128, by omega⟩ : Fin 2560) kk w
        (⟨s.val % 128, by omega⟩ : Fin 128)) = pick X0 X1 X2 X3 X4 q (ix4 (blkOf (ix3 b d s)) kk w (laneOf (ix3 b d s))) :=
      fun w => v0_at X0 X1 X2 X3 X4 _ kk w _ q (blkOf (ix3 b d s))
        (by show b.val * 64 + s.val / 128 = q.val * 512 + (b.val % 8 * 64 + s.val / 128); omega)
    rw [v24_at, hv, hv, hv]
    rfl
  show _ = outG X0 X1 X2 X3 X4 (ix3 b d s)
  unfold outG
  show _ = if b.val < 8 then _ else if b.val < 16 then _ else if b.val < 24 then _ else if b.val < 32 then _ else _
  by_cases h0 : b.val < 8
  · rw [if_pos h0]; exact key 0 (by show b.val / 8 = 0; omega)
  by_cases h1 : b.val < 16
  · rw [if_neg h0, if_pos h1]; exact key 1 (by show b.val / 8 = 1; omega)
  by_cases h2 : b.val < 24
  · rw [if_neg h0, if_neg h1, if_pos h2]; exact key 2 (by show b.val / 8 = 2; omega)
  by_cases h3 : b.val < 32
  · rw [if_neg h0, if_neg h1, if_neg h2, if_pos h3]; exact key 3 (by show b.val / 8 = 3; omega)
  · rw [if_neg h0, if_neg h1, if_neg h2, if_neg h3]; exact key 4 (by show b.val / 8 = 4; omega)

/-- Over the reals the kernel and the reference end with equal results. -/
theorem algebraic [hK : Cert.KernelIdeal.Facts] [hR : Cert.ReferenceIdeal.Facts] : Cert.algebraic_KernelIdeal_ReferenceIdeal := by
  pair_intro
  · run_from Cert.KernelIdeal.Val.run_value m g
  · run_from Cert.ReferenceIdeal.Value.run m' g'
    rw [(hagree c).2.2.2.2]
    exact (val_main_v28_eq _ _ _ _ _).trans (ref_eq _ _ _ _ _)

end Cert.RefValue
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- The reference, host operations only, terminates with its arguments unchanged; it declares no semaphore. -/
theorem frame_reference : Cert.quiescent_ReferenceIdeal (hReferenceIdeal := Cert.ReferenceIdeal.Gen.facts) := fun m ρ _ =>
  (θ_run Cert.ReferenceIdeal.defs _ _).mono (fun _ h => ⟨fun c => (h c).2, funext fun s => nomatch s.2⟩) (Cert.ReferenceIdeal.Value.run m ρ)

/-- Everything the certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial,
  Cert.RefValue.algebraic (hK := Cert.KernelIdeal.Gen.facts) (hR := Cert.ReferenceIdeal.Gen.facts)⟩

end Cert.Proof

end
